-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
-- ==== Pre_finite.lean ====
abbrev S2x1024 : Shape := ⟨2, ![2, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S2x1024 .f32) (main_arg1 : FVec F S4x1024x6144 .f32) (main_arg2 : FVec F S4x6144 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Kernel.lean ====
abbrev S2x8192x6144 : Shape := ⟨3, ![2, 8192, 6144]⟩
abbrev S8192 : Shape := ⟨1, ![8192]⟩
abbrev S_ : Shape := ⟨0, ![]⟩
abbrev S127 : Shape := ⟨1, ![127]⟩
abbrev S1 : Shape := ⟨1, ![1]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x128x256 : Shape := ⟨3, ![4, 128, 256]⟩
abbrev S4x1x512 : Shape := ⟨3, ![4, 1, 512]⟩
abbrev S2x8192x2048 : Shape := ⟨3, ![2, 8192, 2048]⟩
abbrev S1x1024x256 : Shape := ⟨3, ![1, 1024, 256]⟩
abbrev S1x1024x512 : Shape := ⟨3, ![1, 1024, 512]⟩
abbrev S1024x128 : Shape := ⟨2, ![1024, 128]⟩
abbrev S1x128x512 : Shape := ⟨3, ![1, 128, 512]⟩
abbrev S1x128x256 : Shape := ⟨3, ![1, 128, 256]⟩
abbrev S1x1x512 : Shape := ⟨3, ![1, 1, 512]⟩
abbrev S256x512 : Shape := ⟨2, ![256, 512]⟩
abbrev S128x256 : Shape := ⟨2, ![128, 256]⟩
abbrev S128x512 : Shape := ⟨2, ![128, 512]⟩
abbrev S256x128 : Shape := ⟨2, ![256, 128]⟩
abbrev S1x512 : Shape := ⟨2, ![1, 512]⟩

abbrev nBuf : Space → Nat
  | .hbm => 100
  | .vmem => 23
  | .smem => 0
  | _ => 0

abbrev bufTy : (tb : Table) → Fin (tcTables nBuf tb) → BufTy
  | .hbm, ⟨0, _⟩ => ⟨S2x8192x6144, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S127, .f32⟩
  | .hbm, ⟨10, _⟩ => ⟨S_, .f32⟩
  | .hbm, ⟨11, _⟩ => ⟨S127, .f32⟩
  | .hbm, ⟨12, _⟩ => ⟨S127, .f32⟩
  | .hbm, ⟨13, _⟩ => ⟨S1, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S1, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S8192x1, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S128, .f32⟩
  | .hbm, ⟨47, _⟩ => ⟨S128x1, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S_, .f32⟩
  | .hbm, ⟨53, _⟩ => ⟨S128x128, .f32⟩
  | .hbm, ⟨54, _⟩ => ⟨S128x128, .i1⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S1x128x128, .f32⟩
  | .hbm, ⟨59, _⟩ => ⟨S4x1x1, .f32⟩
  | .hbm, ⟨60, _⟩ => ⟨S4x128x128, .f32⟩
  | .hbm, ⟨61, _⟩ => ⟨S4x128x128, .f32⟩
  | .hbm, ⟨62, _⟩ => ⟨S4x128x128, .f32⟩
  | .hbm, ⟨63, _⟩ => ⟨S4x128x128, .f32⟩
  | .hbm, ⟨64, _⟩ => ⟨S_, .f32⟩
  | .hbm, ⟨65, _⟩ => ⟨S_, .f32⟩
  | .hbm, ⟨66, _⟩ => ⟨S4x128x128, .i1⟩
  | .hbm, ⟨67, _⟩ => ⟨S4x128x128, .f32⟩
  | .hbm, ⟨68, _⟩ => ⟨S4x128x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S4x1, .f32⟩
  | .hbm, ⟨74, _⟩ => ⟨S4x128, .f32⟩
  | .hbm, ⟨75, _⟩ => ⟨S4x128, .f32⟩
  | .hbm, ⟨76, _⟩ => ⟨S4x128, .f32⟩
  | .hbm, ⟨77, _⟩ => ⟨S4x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S4x1, .f32⟩
  | .hbm, ⟨83, _⟩ => ⟨S4x128, .f32⟩
  | .hbm, ⟨84, _⟩ => ⟨S4x128, .f32⟩
  | .hbm, ⟨85, _⟩ => ⟨S4x128, .f32⟩
  | .hbm, ⟨86, _⟩ => ⟨S4x128, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S8192x128, .f32⟩
  | .hbm, ⟨92, _⟩ => ⟨S8192x128, .f32⟩
  | .hbm, ⟨93, _⟩ => ⟨S4x128x1, .f32⟩
  | .hbm, ⟨94, _⟩ => ⟨S4x128x512, .f32⟩
  | .hbm, ⟨95, _⟩ => ⟨S4x128x1, .f32⟩
  | .hbm, ⟨96, _⟩ => ⟨S4x128x256, .f32⟩
  | .hbm, ⟨97, _⟩ => ⟨S4x1x1, .f32⟩
  | .hbm, ⟨98, _⟩ => ⟨S4x1x512, .f32⟩
  | .hbm, ⟨99, _⟩ => ⟨S2x8192x2048, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128x128, .f32⟩
  | .local _ .vmem, ⟨13, _⟩ => ⟨S1x128x128, .f32⟩
  | .local _ .vmem, ⟨14, _⟩ => ⟨S1x128x512, .f32⟩
  | .local _ .vmem, ⟨15, _⟩ => ⟨S1x128x512, .f32⟩
  | .local _ .vmem, ⟨16, _⟩ => ⟨S1x128x256, .f32⟩
  | .local _ .vmem, ⟨17, _⟩ => ⟨S1x128x256, .f32⟩
  | .local _ .vmem, ⟨18, _⟩ => ⟨S1x1x512, .f32⟩
  | .local _ .vmem, ⟨19, _⟩ => ⟨S1x1x512, .f32⟩
  | .local _ .vmem, ⟨20, _⟩ => ⟨S1x1024x512, .bf16⟩
  | .local _ .vmem, ⟨21, _⟩ => ⟨S1x1024x512, .bf16⟩
  | .local _ .vmem, ⟨22, _⟩ => ⟨S256x512, .f32⟩
  | _, _ => ⟨S2x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_10 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S2x8192x6144 : Shape := ⟨3, ![2, 8192, 6144]⟩
abbrev S2x8192x1024 : Shape := ⟨3, ![2, 8192, 1024]⟩
abbrev S2x8192x2048 : Shape := ⟨3, ![2, 8192, 2048]⟩
abbrev S2x8192x4x256 : Shape := ⟨4, ![2, 8192, 4, 256]⟩
abbrev S2x4x8192x256 : Shape := ⟨4, ![2, 4, 8192, 256]⟩
abbrev S2x8192x4x512 : Shape := ⟨4, ![2, 8192, 4, 512]⟩
abbrev S2x4x8192x512 : Shape := ⟨4, ![2, 4, 8192, 512]⟩
abbrev S8192 : Shape := ⟨1, ![8192]⟩
abbrev S_ : Shape := ⟨0, ![]⟩
abbrev S127 : Shape := ⟨1, ![127]⟩
abbrev S1 : Shape := ⟨1, ![1]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S2x4x8192x128 : Shape := ⟨4, ![2, 4, 8192, 128]⟩
abbrev S1x1x8192x128 : Shape := ⟨4, ![1, 1, 8192, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S2x4x256x512 : Shape := ⟨4, ![2, 4, 256, 512]⟩
abbrev S2x4x64x128x256 : Shape := ⟨5, ![2, 4, 64, 128, 256]⟩
abbrev S64x2x4x128x256 : Shape := ⟨5, ![64, 2, 4, 128, 256]⟩
abbrev S2x4x64x128x512 : Shape := ⟨5, ![2, 4, 64, 128, 512]⟩
abbrev S64x2x4x128x512 : Shape := ⟨5, ![64, 2, 4, 128, 512]⟩
abbrev S1x2x4x128x256 : Shape := ⟨5, ![1, 2, 4, 128, 256]⟩
abbrev S2x4x128x256 : Shape := ⟨4, ![2, 4, 128, 256]⟩
abbrev S1x2x4x128x512 : Shape := ⟨5, ![1, 2, 4, 128, 512]⟩
abbrev S2x4x128x512 : Shape := ⟨4, ![2, 4, 128, 512]⟩
abbrev S2x4x128x128 : Shape := ⟨4, ![2, 4, 128, 128]⟩
abbrev S1x4x128x128 : Shape := ⟨4, ![1, 4, 128, 128]⟩
abbrev S4x128x1 : Shape := ⟨3, ![4, 128, 1]⟩
abbrev S1x4x128x1 : Shape := ⟨4, ![1, 4, 128, 1]⟩
abbrev S1x4x1x1 : Shape := ⟨4, ![1, 4, 1, 1]⟩
abbrev S2x64x128x4x512 : Shape := ⟨5, ![2, 64, 128, 4, 512]⟩
abbrev S2x8192x4 : Shape := ⟨3, ![2, 8192, 4]⟩
abbrev S2x8192x4x1 : Shape := ⟨4, ![2, 8192, 4, 1]⟩

abbrev nBuf : Space → Nat
  | .hbm => 251
  | .vmem => 0
  | .smem => 0
  | _ => 0

abbrev hbmTy0_0 (i : Nat) : BufTy := match i % 128 with
  | 0 => ⟨S2x8192x6144, .f32⟩
  | 1 => ⟨S2x8192x1024, .f32⟩
  | 2 => ⟨S2x8192x1024, .f32⟩
  | 3 => ⟨S2x8192x2048, .f32⟩
  | 4 => ⟨S2x8192x2048, .f32⟩
  | 5 => ⟨S2x8192x4x256, .f32⟩
  | 6 => ⟨S2x4x8192x256, .f32⟩
  | 7 => ⟨S2x8192x4x256, .f32⟩
  | 8 => ⟨S2x4x8192x256, .f32⟩
  | 9 => ⟨S2x8192x4x512, .f32⟩
  | 10 => ⟨S2x4x8192x512, .f32⟩
  | 11 => ⟨S8192, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S127, .f32⟩
  | 20 => ⟨S_, .f32⟩
  | 21 => ⟨S127, .f32⟩
  | 22 => ⟨S127, .f32⟩
  | 23 => ⟨S1, .f32⟩
  | 24 => ⟨S_, .f32⟩
  | 25 => ⟨S127, .f32⟩
  | 26 => ⟨S127, .f32⟩
  | 27 => ⟨S127, .f32⟩
  | 28 => ⟨S127, .f32⟩
  | 29 => ⟨S1, .f32⟩
  | 30 => ⟨S127, .f32⟩
  | 31 => ⟨S127, .f32⟩
  | 32 => ⟨S127, .f32⟩
  | 33 => ⟨S1, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S8192x1, .f32⟩
  | 42 => ⟨S1x128, .f32⟩
  | 43 => ⟨S8192x128, .f32⟩
  | 44 => ⟨S8192x128, .f32⟩
  | 45 => ⟨S8192x128, .f32⟩
  | 46 => ⟨S8192x128, .f32⟩
  | 47 => ⟨S8192x128, .f32⟩
  | 48 => ⟨S2x4x8192x128, .f32⟩
  | 49 => ⟨S2x4x8192x128, .f32⟩
  | 50 => ⟨S1x1x8192x128, .f32⟩
  | 51 => ⟨S2x4x8192x128, .f32⟩
  | 52 => ⟨S2x4x8192x128, .f32⟩
  | 53 => ⟨S1x1x8192x128, .f32⟩
  | 54 => ⟨S2x4x8192x128, .f32⟩
  | 55 => ⟨S2x4x8192x128, .f32⟩
  | 56 => ⟨S2x4x8192x128, .f32⟩
  | 57 => ⟨S1x1x8192x128, .f32⟩
  | 58 => ⟨S2x4x8192x128, .f32⟩
  | 59 => ⟨S2x4x8192x128, .f32⟩
  | 60 => ⟨S1x1x8192x128, .f32⟩
  | 61 => ⟨S2x4x8192x128, .f32⟩
  | 62 => ⟨S2x4x8192x128, .f32⟩
  | 63 => ⟨S2x4x8192x128, .f32⟩
  | 64 => ⟨S2x4x8192x256, .f32⟩
  | 65 => ⟨S2x4x8192x128, .f32⟩
  | 66 => ⟨S2x4x8192x128, .f32⟩
  | 67 => ⟨S1x1x8192x128, .f32⟩
  | 68 => ⟨S2x4x8192x128, .f32⟩
  | 69 => ⟨S2x4x8192x128, .f32⟩
  | 70 => ⟨S1x1x8192x128, .f32⟩
  | 71 => ⟨S2x4x8192x128, .f32⟩
  | 72 => ⟨S2x4x8192x128, .f32⟩
  | 73 => ⟨S2x4x8192x128, .f32⟩
  | 74 => ⟨S1x1x8192x128, .f32⟩
  | 75 => ⟨S2x4x8192x128, .f32⟩
  | 76 => ⟨S2x4x8192x128, .f32⟩
  | 77 => ⟨S1x1x8192x128, .f32⟩
  | 78 => ⟨S2x4x8192x128, .f32⟩
  | 79 => ⟨S2x4x8192x128, .f32⟩
  | 80 => ⟨S2x4x8192x128, .f32⟩
  | 81 => ⟨S2x4x8192x256, .f32⟩
  | 82 => ⟨S_, .f32⟩
  | 83 => ⟨S2x4x8192x256, .f32⟩
  | 84 => ⟨S2x4x8192x256, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S4, .f32⟩
  | 94 => ⟨S4, .f32⟩
  | 95 => ⟨S128, .f32⟩
  | 96 => ⟨S128x1, .f32⟩
  | 97 => ⟨S1x128, .f32⟩
  | 98 => ⟨S128x128, .f32⟩
  | 99 => ⟨S128x128, .f32⟩
  | 100 => ⟨S128x128, .f32⟩
  | 101 => ⟨S_, .f32⟩
  | 102 => ⟨S128x128, .f32⟩
  | 103 => ⟨S128x128, .i1⟩
  | 104 => ⟨S_, .f32⟩
  | 105 => ⟨S128x128, .f32⟩
  | 106 => ⟨S128x128, .f32⟩
  | 107 => ⟨S1x128x128, .f32⟩
  | 108 => ⟨S4x1x1, .f32⟩
  | 109 => ⟨S4x128x128, .f32⟩
  | 110 => ⟨S4x128x128, .f32⟩
  | 111 => ⟨S4x128x128, .f32⟩
  | 112 => ⟨S4x128x128, .f32⟩
  | 113 => ⟨S_, .f32⟩
  | 114 => ⟨S_, .f32⟩
  | 115 => ⟨S4x128x128, .i1⟩
  | 116 => ⟨S4x128x128, .f32⟩
  | 117 => ⟨S4x128x128, .f32⟩
  | 118 => ⟨S_, .f32⟩
  | 119 => ⟨S128, .f32⟩
  | 120 => ⟨S128, .f32⟩
  | 121 => ⟨S1x128, .f32⟩
  | 122 => ⟨S4x1, .f32⟩
  | 123 => ⟨S4x128, .f32⟩
  | 124 => ⟨S4x128, .f32⟩
  | 125 => ⟨S4x128, .f32⟩
  | 126 => ⟨S4x128, .f32⟩
  | 127 => ⟨S_, .f32⟩
  | _ => ⟨S2x8192x6144, .f32⟩

abbrev hbmTy0_1 (i : Nat) : BufTy := match i % 128 with
  | 0 => ⟨S128, .f32⟩
  | 1 => ⟨S128, .f32⟩
  | 2 => ⟨S1x128, .f32⟩
  | 3 => ⟨S4x1, .f32⟩
  | 4 => ⟨S4x128, .f32⟩
  | 5 => ⟨S4x128, .f32⟩
  | 6 => ⟨S4x128, .f32⟩
  | 7 => ⟨S4x128, .f32⟩
  | 8 => ⟨S_, .f32⟩
  | 9 => ⟨S4, .f32⟩
  | 10 => ⟨S4, .f32⟩
  | 11 => ⟨S4, .f32⟩
  | 12 => ⟨S_, .f32⟩
  | 13 => ⟨S2x4x256x512, .f32⟩
  | 14 => ⟨S2x4x64x128x256, .f32⟩
  | 15 => ⟨S64x2x4x128x256, .f32⟩
  | 16 => ⟨S2x4x64x128x256, .f32⟩
  | 17 => ⟨S64x2x4x128x256, .f32⟩
  | 18 => ⟨S2x4x64x128x512, .f32⟩
  | 19 => ⟨S64x2x4x128x512, .f32⟩
  | 20 => ⟨S_, .f32⟩
  | 21 => ⟨S64x2x4x128x512, .f32⟩
  | 22 => ⟨S_, .i32⟩
  | 23 => ⟨S64x2x4x128x256, .f32⟩
  | 24 => ⟨S64x2x4x128x256, .f32⟩
  | 25 => ⟨S64x2x4x128x512, .f32⟩
  | 26 => ⟨S4x128x128, .f32⟩
  | 27 => ⟨S4x128, .f32⟩
  | 28 => ⟨S4, .f32⟩
  | 29 => ⟨S4x128, .f32⟩
  | 30 => ⟨S_, .i32⟩
  | 31 => ⟨S2x4x256x512, .f32⟩
  | 32 => ⟨S64x2x4x128x512, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1x2x4x128x256, .f32⟩
  | 40 => ⟨S2x4x128x256, .f32⟩
  | 41 => ⟨S_, .i32⟩
  | 42 => ⟨S_, .i32⟩
  | 43 => ⟨S_, .i32⟩
  | 44 => ⟨S_, .i32⟩
  | 45 => ⟨S1x2x4x128x256, .f32⟩
  | 46 => ⟨S2x4x128x256, .f32⟩
  | 47 => ⟨S_, .i32⟩
  | 48 => ⟨S_, .i32⟩
  | 49 => ⟨S_, .i32⟩
  | 50 => ⟨S_, .i32⟩
  | 51 => ⟨S1x2x4x128x512, .f32⟩
  | 52 => ⟨S2x4x128x512, .f32⟩
  | 53 => ⟨S2x4x128x128, .f32⟩
  | 54 => ⟨S1x4x128x128, .f32⟩
  | 55 => ⟨S2x4x128x128, .f32⟩
  | 56 => ⟨S2x4x128x128, .f32⟩
  | 57 => ⟨S2x4x128x512, .f32⟩
  | 58 => ⟨S2x4x128x512, .f32⟩
  | 59 => ⟨S4x128x1, .f32⟩
  | 60 => ⟨S1x4x128x1, .f32⟩
  | 61 => ⟨S2x4x128x512, .f32⟩
  | 62 => ⟨S2x4x128x512, .f32⟩
  | 63 => ⟨S4x1x1, .f32⟩
  | 64 => ⟨S1x4x1x1, .f32⟩
  | 65 => ⟨S2x4x256x512, .f32⟩
  | 66 => ⟨S2x4x256x512, .f32⟩
  | 67 => ⟨S4x128x1, .f32⟩
  | 68 => ⟨S1x4x128x1, .f32⟩
  | 69 => ⟨S2x4x128x256, .f32⟩
  | 70 => ⟨S2x4x128x256, .f32⟩
  | 71 => ⟨S2x4x256x512, .f32⟩
  | 72 => ⟨S2x4x256x512, .f32⟩
  | 73 => ⟨S2x4x128x512, .f32⟩
  | 74 => ⟨S1x2x4x128x512, .f32⟩
  | 75 => ⟨S_, .i32⟩
  | 76 => ⟨S_, .i32⟩
  | 77 => ⟨S_, .i32⟩
  | 78 => ⟨S_, .i32⟩
  | 79 => ⟨S64x2x4x128x512, .f32⟩
  | 80 => ⟨S_, .i32⟩
  | 81 => ⟨S_, .i32⟩
  | 82 => ⟨S2x64x128x4x512, .f32⟩
  | 83 => ⟨S2x8192x4x512, .f32⟩
  | 84 => ⟨S_, .f32⟩
  | 85 => ⟨S2x8192x4, .f32⟩
  | 86 => ⟨S2x8192x4x1, .f32⟩
  | 87 => ⟨S_, .f32⟩
  | 88 => ⟨S2x8192x4x1, .f32⟩
  | 89 => ⟨S2x8192x4x1, .f32⟩
  | 90 => ⟨S2x8192x4x512, .f32⟩
  | 91 => ⟨S2x8192x4x512, .f32⟩
  | 92 => ⟨S2x8192x4x512, .f32⟩
  | 93 => ⟨S_, .f32⟩
  | 94 => ⟨S2x8192x4, .f32⟩
  | 95 => ⟨S2x8192x4x1, .f32⟩
  | 96 => ⟨S_, .f32⟩
  | 97 => ⟨S2x8192x4x1, .f32⟩
  | 98 => ⟨S2x8192x4x1, .f32⟩
  | 99 => ⟨S2x8192x4x512, .f32⟩
  | 100 => ⟨S2x8192x4x512, .f32⟩
  | 101 => ⟨S_, .f32⟩
  | 102 => ⟨S2x8192x4x1, .f32⟩
  | 103 => ⟨S2x8192x4x1, .f32⟩
  | 104 => ⟨S2x8192x4x1, .f32⟩
  | 105 => ⟨S2x8192x4x512, .f32⟩
  | 106 => ⟨S2x8192x4x512, .f32⟩
  | 107 => ⟨S2x8192x2048, .f32⟩
  | 108 => ⟨S2x8192x1024, .f32⟩
  | 109 => ⟨S2x8192x1024, .f32⟩
  | 110 => ⟨S2x8192x2048, .f32⟩
  | 111 => ⟨S2x8192x2048, .f32⟩
  | 112 => ⟨S2x8192x2048, .f32⟩
  | 113 => ⟨S2x8192x2048, .f32⟩
  | 114 => ⟨S_, .f32⟩
  | 115 => ⟨S2x8192x2048, .f32⟩
  | 116 => ⟨S2x8192x2048, .f32⟩
  | 117 => ⟨S_, .f32⟩
  | 118 => ⟨S2x8192x2048, .f32⟩
  | 119 => ⟨S2x8192x2048, .f32⟩
  | 120 => ⟨S2x8192x2048, .f32⟩
  | 121 => ⟨S2x8192x2048, .f32⟩
  | 122 => ⟨S2x8192x2048, .bf16⟩
  | _ => ⟨S2x8192x6144, .f32⟩

abbrev hbmTy (i : Nat) : BufTy := match i / 128 with
  | 0 => hbmTy0_0 i
  | 1 => hbmTy0_1 i
  | _ => ⟨S2x8192x6144, .f32⟩

abbrev bufTy : (tb : Table) → Fin (tcTables nBuf tb) → BufTy
  | .hbm, ⟨i, _⟩ => hbmTy i
  | _, _ => ⟨S2x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_3 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_4 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩
abbrev main_cst_7 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v83 : Ref sig .tc := ⟨.hbm, 117, rfl⟩
abbrev main_cst_9 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_10 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_11 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_12 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_13 : Ref sig .tc := ⟨.hbm, 148, rfl⟩
abbrev main_v110 : Ref sig .tc := ⟨.hbm, 149, rfl⟩
abbrev main_c : Ref sig .tc := ⟨.hbm, 150, rfl⟩
abbrev main_v111_0 : Ref sig .tc := ⟨.hbm, 151, rfl⟩
abbrev main_v111_1 : Ref sig .tc := ⟨.hbm, 152, rfl⟩
abbrev main_v111_2 : Ref sig .tc := ⟨.hbm, 153, rfl⟩
abbrev main_v111_3 : Ref sig .tc := ⟨.hbm, 154, rfl⟩
abbrev main_v111_4 : Ref sig .tc := ⟨.hbm, 155, rfl⟩
abbrev main_v111_5 : Ref sig .tc := ⟨.hbm, 156, rfl⟩
abbrev main_v111_6 : Ref sig .tc := ⟨.hbm, 157, rfl⟩
abbrev main_v111_7 : Ref sig .tc := ⟨.hbm, 158, rfl⟩
abbrev main_v111_8 : Ref sig .tc := ⟨.hbm, 159, rfl⟩
abbrev main_v111_9 : Ref sig .tc := ⟨.hbm, 160, rfl⟩
abbrev main_while0c_c_28 : Ref sig .tc := ⟨.hbm, 161, rfl⟩
abbrev main_while0c_v140 : Ref sig .tc := ⟨.hbm, 162, rfl⟩
abbrev main_while0b_call2_c : Ref sig .tc := ⟨.hbm, 163, rfl⟩
abbrev main_while0b_call2_c_0 : Ref sig .tc := ⟨.hbm, 164, rfl⟩
abbrev main_while0b_call2_c_1 : Ref sig .tc := ⟨.hbm, 165, rfl⟩
abbrev main_while0b_call2_c_2 : Ref sig .tc := ⟨.hbm, 166, rfl⟩
abbrev main_while0b_call2_v0 : Ref sig .tc := ⟨.hbm, 167, rfl⟩
abbrev main_while0b_v140 : Ref sig .tc := ⟨.hbm, 168, rfl⟩
abbrev main_while0b_call3_c : Ref sig .tc := ⟨.hbm, 169, rfl⟩
abbrev main_while0b_call3_c_0 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v0 : Ref sig .tc := ⟨.hbm, 173, rfl⟩
abbrev main_while0b_v141 : Ref sig .tc := ⟨.hbm, 174, rfl⟩
abbrev main_while0b_call4_c : Ref sig .tc := ⟨.hbm, 175, rfl⟩
abbrev main_while0b_call4_c_0 : Ref sig .tc := ⟨.hbm, 176, rfl⟩
abbrev main_while0b_call4_c_1 : Ref sig .tc := ⟨.hbm, 177, rfl⟩
abbrev main_while0b_call4_c_2 : Ref sig .tc := ⟨.hbm, 178, rfl⟩
abbrev main_while0b_call4_v0 : Ref sig .tc := ⟨.hbm, 179, rfl⟩
abbrev main_while0b_v142 : Ref sig .tc := ⟨.hbm, 180, rfl⟩
abbrev main_while0b_v143 : Ref sig .tc := ⟨.hbm, 181, rfl⟩
abbrev main_while0b_v144 : Ref sig .tc := ⟨.hbm, 182, rfl⟩
abbrev main_while0b_v145 : Ref sig .tc := ⟨.hbm, 183, rfl⟩
abbrev main_while0b_v146 : Ref sig .tc := ⟨.hbm, 184, rfl⟩
abbrev main_while0b_v147 : Ref sig .tc := ⟨.hbm, 185, rfl⟩
abbrev main_while0b_v148 : Ref sig .tc := ⟨.hbm, 186, rfl⟩
abbrev main_while0b_v149 : Ref sig .tc := ⟨.hbm, 187, rfl⟩
abbrev main_while0b_v150 : Ref sig .tc := ⟨.hbm, 188, rfl⟩
abbrev main_while0b_v151 : Ref sig .tc := ⟨.hbm, 189, rfl⟩
abbrev main_while0b_v152 : Ref sig .tc := ⟨.hbm, 190, rfl⟩
abbrev main_while0b_v153 : Ref sig .tc := ⟨.hbm, 191, rfl⟩
abbrev main_while0b_v154 : Ref sig .tc := ⟨.hbm, 192, rfl⟩
abbrev main_while0b_v155 : Ref sig .tc := ⟨.hbm, 193, rfl⟩
abbrev main_while0b_v156 : Ref sig .tc := ⟨.hbm, 194, rfl⟩
abbrev main_while0b_v157 : Ref sig .tc := ⟨.hbm, 195, rfl⟩
abbrev main_while0b_v158 : Ref sig .tc := ⟨.hbm, 196, rfl⟩
abbrev main_while0b_v159 : Ref sig .tc := ⟨.hbm, 197, rfl⟩
abbrev main_while0b_v160 : Ref sig .tc := ⟨.hbm, 198, rfl⟩
abbrev main_while0b_v161 : Ref sig .tc := ⟨.hbm, 199, rfl⟩
abbrev main_while0b_v162 : Ref sig .tc := ⟨.hbm, 200, rfl⟩
abbrev main_while0b_v163 : Ref sig .tc := ⟨.hbm, 201, rfl⟩
abbrev main_while0b_call5_v0 : Ref sig .tc := ⟨.hbm, 202, rfl⟩
abbrev main_while0b_call5_c : Ref sig .tc := ⟨.hbm, 203, rfl⟩
abbrev main_while0b_call5_c_0 : Ref sig .tc := ⟨.hbm, 204, rfl⟩
abbrev main_while0b_call5_c_1 : Ref sig .tc := ⟨.hbm, 205, rfl⟩
abbrev main_while0b_call5_c_2 : Ref sig .tc := ⟨.hbm, 206, rfl⟩
abbrev main_while0b_v164 : Ref sig .tc := ⟨.hbm, 207, rfl⟩
abbrev main_while0b_c_28 : Ref sig .tc := ⟨.hbm, 208, rfl⟩
abbrev main_while0b_v165 : Ref sig .tc := ⟨.hbm, 209, rfl⟩
abbrev main_v112 : Ref sig .tc := ⟨.hbm, 210, rfl⟩
abbrev main_v113 : Ref sig .tc := ⟨.hbm, 211, rfl⟩
abbrev main_cst_14 : Ref sig .tc := ⟨.hbm, 212, rfl⟩
abbrev main_v114 : Ref sig .tc := ⟨.hbm, 213, rfl⟩
abbrev main_v115 : Ref sig .tc := ⟨.hbm, 214, rfl⟩
abbrev main_cst_15 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_cst_16 : Ref sig .tc := ⟨.hbm, 221, rfl⟩
abbrev main_v121 : Ref sig .tc := ⟨.hbm, 222, rfl⟩
abbrev main_v122 : Ref sig .tc := ⟨.hbm, 223, rfl⟩
abbrev main_cst_17 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_cst_18 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_call6_v0 : Ref sig .tc := ⟨.hbm, 240, rfl⟩
abbrev main_call6_v1 : Ref sig .tc := ⟨.hbm, 241, rfl⟩
abbrev main_call6_cst : Ref sig .tc := ⟨.hbm, 242, rfl⟩
abbrev main_call6_v2 : Ref sig .tc := ⟨.hbm, 243, rfl⟩
abbrev main_call6_v3 : Ref sig .tc := ⟨.hbm, 244, rfl⟩
abbrev main_call6_cst_0 : Ref sig .tc := ⟨.hbm, 245, rfl⟩
abbrev main_call6_v4 : Ref sig .tc := ⟨.hbm, 246, rfl⟩
abbrev main_call6_v5 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S2x1x1024 : Shape := ⟨3, ![2, 1, 1024]⟩
abbrev S1024x6144 : Shape := ⟨2, ![1024, 6144]⟩
abbrev S2x8192x6144 : Shape := ⟨3, ![2, 8192, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x6144, .f32⟩
  | .hbm, ⟨4, _⟩ => ⟨S1024x6144, .bf16⟩
  | .hbm, ⟨5, _⟩ => ⟨S2x8192x6144, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S2x8192x1024 : Shape := ⟨3, ![2, 8192, 1024]⟩
abbrev S2x1x1024 : Shape := ⟨3, ![2, 1, 1024]⟩
abbrev S1024x6144 : Shape := ⟨2, ![1024, 6144]⟩
abbrev S_ : Shape := ⟨0, ![]⟩
abbrev S2x8192x6144 : Shape := ⟨3, ![2, 8192, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x6144, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x6144, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S2x8192x2048 : Shape := ⟨3, ![2, 8192, 2048]⟩
abbrev S2048x1024 : Shape := ⟨2, ![2048, 1024]⟩
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x2048, .bf16⟩
  | .hbm, ⟨1, _⟩ => ⟨S2048x1024, .f32⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x8192x2048 : Shape := ⟨3, ![2, 8192, 2048]⟩
abbrev S2048x1024 : Shape := ⟨2, ![2048, 1024]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x1024, .f32⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S2x8192x2048, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S1x1x1024, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1x1024 : Shape := ⟨3, ![2, 1, 1024]⟩
abbrev S1024x1072 : Shape := ⟨2, ![1024, 1072]⟩
abbrev S1024x1024 : Shape := ⟨2, ![1024, 1024]⟩
abbrev S_ : Shape := ⟨0, ![]⟩
abbrev S1024x48 : Shape := ⟨2, ![1024, 48]⟩
abbrev S48x1024 : Shape := ⟨2, ![48, 1024]⟩
abbrev S80x1024 : Shape := ⟨2, ![80, 1024]⟩
abbrev S1152x1024 : Shape := ⟨2, ![1152, 1024]⟩
abbrev S2x1152x8192 : Shape := ⟨3, ![2, 1152, 8192]⟩
abbrev S1x1024x1024 : Shape := ⟨3, ![1, 1024, 1024]⟩
abbrev S1x1x1024 : Shape := ⟨3, ![1, 1, 1024]⟩
abbrev S384x1024 : Shape := ⟨2, ![384, 1024]⟩
abbrev S1x384x1024 : Shape := ⟨3, ![1, 384, 1024]⟩
abbrev S1x1024 : Shape := ⟨2, ![1, 1024]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1072, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x48, .f32⟩
  | .hbm, ⟨10, _⟩ => ⟨S48x1024, .f32⟩
  | .hbm, ⟨11, _⟩ => ⟨S_, .f32⟩
  | .hbm, ⟨12, _⟩ => ⟨S80x1024, .f32⟩
  | .hbm, ⟨13, _⟩ => ⟨S1152x1024, .f32⟩
  | .hbm, ⟨14, _⟩ => ⟨S1152x1024, .bf16⟩
  | .hbm, ⟨15, _⟩ => ⟨S2x1152x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S384x1024, .bf16⟩
  | .local _ .vmem, ⟨7, _⟩ => ⟨S384x1024, .bf16⟩
  | .local _ .vmem, ⟨8, _⟩ => ⟨S1x384x1024, .f32⟩
  | .local _ .vmem, ⟨9, _⟩ => ⟨S1x384x1024, .f32⟩
  | .local _ .vmem, ⟨10, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S2x8192x1024 : Shape := ⟨3, ![2, 8192, 1024]⟩
abbrev S2x1x1024 : Shape := ⟨3, ![2, 1, 1024]⟩
abbrev S1024x1072 : Shape := ⟨2, ![1024, 1072]⟩
abbrev S_ : Shape := ⟨0, ![]⟩
abbrev S2x8192x1072 : Shape := ⟨3, ![2, 8192, 1072]⟩
abbrev S2x8192x48 : Shape := ⟨3, ![2, 8192, 48]⟩
abbrev S2x8192x80 : Shape := ⟨3, ![2, 8192, 80]⟩
abbrev S2x8192x1152 : Shape := ⟨3, ![2, 8192, 1152]⟩
abbrev S2x1152x8192 : Shape := ⟨3, ![2, 1152, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1072, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1072, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S2x8192x48, .f32⟩
  | .hbm, ⟨17, _⟩ => ⟨S_, .f32⟩
  | .hbm, ⟨18, _⟩ => ⟨S2x8192x80, .f32⟩
  | .hbm, ⟨19, _⟩ => ⟨S2x8192x1152, .f32⟩
  | .hbm, ⟨20, _⟩ => ⟨S2x1152x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S1x1x1024, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x1x1024 : Shape := ⟨3, ![2, 1, 1024]⟩
abbrev S1024x1536 : Shape := ⟨2, ![1024, 1536]⟩
abbrev S2x8192x1536 : Shape := ⟨3, ![2, 8192, 1536]⟩
abbrev S1x1024x1024 : Shape := ⟨3, ![1, 1024, 1024]⟩
abbrev S1x1x1024 : Shape := ⟨3, ![1, 1, 1024]⟩
abbrev S1024x512 : Shape := ⟨2, ![1024, 512]⟩
abbrev S1x1024x512 : Shape := ⟨3, ![1, 1024, 512]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1536, .f32⟩
  | .hbm, ⟨4, _⟩ => ⟨S1024x1536, .bf16⟩
  | .hbm, ⟨5, _⟩ => ⟨S2x8192x1536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S2x8192x1024 : Shape := ⟨3, ![2, 8192, 1024]⟩
abbrev S2x1x1024 : Shape := ⟨3, ![2, 1, 1024]⟩
abbrev S1024x1536 : Shape := ⟨2, ![1024, 1536]⟩
abbrev S_ : Shape := ⟨0, ![]⟩
abbrev S2x8192x1536 : Shape := ⟨3, ![2, 8192, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1536, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1536, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x1x1024 : Shape := ⟨3, ![2, 1, 1024]⟩
abbrev S1024x1536 : Shape := ⟨2, ![1024, 1536]⟩
abbrev S1024x3x2x256 : Shape := ⟨4, ![1024, 3, 2, 256]⟩
abbrev S1024x2x1x256 : Shape := ⟨4, ![1024, 2, 1, 256]⟩
abbrev S1024x2x256 : Shape := ⟨3, ![1024, 2, 256]⟩
abbrev S1024x512 : Shape := ⟨2, ![1024, 512]⟩
abbrev S512x1024 : Shape := ⟨2, ![512, 1024]⟩
abbrev S2x512x8192 : Shape := ⟨3, ![2, 512, 8192]⟩
abbrev S1x512x1024 : Shape := ⟨3, ![1, 512, 1024]⟩
abbrev S1x1x1024 : Shape := ⟨3, ![1, 1, 1024]⟩
abbrev S1x512x512 : Shape := ⟨3, ![1, 512, 512]⟩
abbrev S1x1024 : Shape := ⟨2, ![1, 1024]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1536, .f32⟩
  | .hbm, ⟨4, _⟩ => ⟨S1024x3x2x256, .f32⟩
  | .hbm, ⟨5, _⟩ => ⟨S1024x2x1x256, .f32⟩
  | .hbm, ⟨6, _⟩ => ⟨S1024x2x256, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S2x512x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S1x512x512, .bf16⟩
  | .local _ .vmem, ⟨8, _⟩ => ⟨S1x512x512, .bf16⟩
  | .local _ .vmem, ⟨9, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S2x8192x1024 : Shape := ⟨3, ![2, 8192, 1024]⟩
abbrev S2x1x1024 : Shape := ⟨3, ![2, 1, 1024]⟩
abbrev S1024x1536 : Shape := ⟨2, ![1024, 1536]⟩
abbrev S_ : Shape := ⟨0, ![]⟩
abbrev S2x8192x1536 : Shape := ⟨3, ![2, 8192, 1536]⟩
abbrev S2x8192x3x2x4x64 : Shape := ⟨6, ![2, 8192, 3, 2, 4, 64]⟩
abbrev S2x8192x2x1x4x64 : Shape := ⟨6, ![2, 8192, 2, 1, 4, 64]⟩
abbrev S2x8192x2x4x64 : Shape := ⟨5, ![2, 8192, 2, 4, 64]⟩
abbrev S2x8192x512 : Shape := ⟨3, ![2, 8192, 512]⟩
abbrev S2x512x8192 : Shape := ⟨3, ![2, 512, 8192]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024x1536, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1536, .f32⟩
  | .hbm, ⟨12, _⟩ => ⟨S2x8192x3x2x4x64, .f32⟩
  | .hbm, ⟨13, _⟩ => ⟨S2x8192x2x1x4x64, .f32⟩
  | .hbm, ⟨14, _⟩ => ⟨S2x8192x2x4x64, .f32⟩
  | .hbm, ⟨15, _⟩ => ⟨S2x8192x512, .f32⟩
  | .hbm, ⟨16, _⟩ => ⟨S2x512x8192, .f32⟩
  | .hbm, ⟨17, _⟩ => ⟨S2x512x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S2x8192x1536 : Shape := ⟨3, ![2, 8192, 1536]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x8192x3x2x4x64 : Shape := ⟨6, ![2, 8192, 3, 2, 4, 64]⟩
abbrev S2x8192x1x2x4x64 : Shape := ⟨6, ![2, 8192, 1, 2, 4, 64]⟩
abbrev S2x8192x2x4x64 : Shape := ⟨5, ![2, 8192, 2, 4, 64]⟩
abbrev S2x512x16x2x4x64 : Shape := ⟨6, ![2, 512, 16, 2, 4, 64]⟩
abbrev S2x2x4x512x16x64 : Shape := ⟨6, ![2, 2, 4, 512, 16, 64]⟩
abbrev S2x2x4x512x1024 : Shape := ⟨5, ![2, 2, 4, 512, 1024]⟩
abbrev S2x2x1024 : Shape := ⟨3, ![2, 2, 1024]⟩
abbrev S2x1x256 : Shape := ⟨3, ![2, 1, 256]⟩
abbrev S2x64x256 : Shape := ⟨3, ![2, 64, 256]⟩
abbrev S2x2x4x512x64 : Shape := ⟨5, ![2, 2, 4, 512, 64]⟩
abbrev S2x2x4x64x512 : Shape := ⟨5, ![2, 2, 4, 64, 512]⟩
abbrev S1x1x1x512x1024 : Shape := ⟨5, ![1, 1, 1, 512, 1024]⟩
abbrev S1x2x1024 : Shape := ⟨3, ![1, 2, 1024]⟩
abbrev S1x2048x256 : Shape := ⟨3, ![1, 2048, 256]⟩
abbrev S1x1x256 : Shape := ⟨3, ![1, 1, 256]⟩
abbrev S1x256x64 : Shape := ⟨3, ![1, 256, 64]⟩
abbrev S1x64x256 : Shape := ⟨3, ![1, 64, 256]⟩
abbrev S1x1x1x512x64 : Shape := ⟨5, ![1, 1, 1, 512, 64]⟩
abbrev S1x1x1x64x512 : Shape := ⟨5, ![1, 1, 1, 64, 512]⟩
abbrev S512x1024 : Shape := ⟨2, ![512, 1024]⟩
abbrev S1x1x1024 : Shape := ⟨3, ![1, 1, 1024]⟩
abbrev S1x1024 : Shape := ⟨2, ![1, 1024]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S256x64 : Shape := ⟨2, ![256, 64]⟩
abbrev S512x64 : Shape := ⟨2, ![512, 64]⟩
abbrev S64x256 : Shape := ⟨2, ![64, 256]⟩
abbrev S64x512 : Shape := ⟨2, ![64, 512]⟩

abbrev nBuf : Space → Nat
  | .hbm => 19
  | .vmem => 16
  | .smem => 0
  | _ => 0

abbrev bufTy : (tb : Table) → Fin (tcTables nBuf tb) → BufTy
  | .hbm, ⟨0, _⟩ => ⟨S2x8192x1536, .f32⟩
  | .hbm, ⟨1, _⟩ => ⟨S2x32x64, .f32⟩
  | .hbm, ⟨2, _⟩ => ⟨S2x2048x256, .f32⟩
  | .hbm, ⟨3, _⟩ => ⟨S2x256, .f32⟩
  | .hbm, ⟨4, _⟩ => ⟨S2x256x64, .f32⟩
  | .hbm, ⟨5, _⟩ => ⟨S2x8192x3x2x4x64, .f32⟩
  | .hbm, ⟨6, _⟩ => ⟨S2x8192x1x2x4x64, .f32⟩
  | .hbm, ⟨7, _⟩ => ⟨S2x8192x2x4x64, .f32⟩
  | .hbm, ⟨8, _⟩ => ⟨S2x512x16x2x4x64, .f32⟩
  | .hbm, ⟨9, _⟩ => ⟨S2x2x4x512x16x64, .f32⟩
  | .hbm, ⟨10, _⟩ => ⟨S2x2x4x512x1024, .f32⟩
  | .hbm, ⟨11, _⟩ => ⟨S2x2x1024, .f32⟩
  | .hbm, ⟨12, _⟩ => ⟨S2x2048x256, .bf16⟩
  | .hbm, ⟨13, _⟩ => ⟨S2x1x256, .f32⟩
  | .hbm, ⟨14, _⟩ => ⟨S2x256x64, .bf16⟩
  | .hbm, ⟨15, _⟩ => ⟨S2x64x256, .f32⟩
  | .hbm, ⟨16, _⟩ => ⟨S2x64x256, .bf16⟩
  | .hbm, ⟨17, _⟩ => ⟨S2x2x4x512x64, .bf16⟩
  | .hbm, ⟨18, _⟩ => ⟨S2x2x4x64x512, .bf16⟩
  | .local _ .vmem, ⟨0, _⟩ => ⟨S1x1x1x512x1024, .f32⟩
  | .local _ .vmem, ⟨1, _⟩ => ⟨S1x1x1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2048x256, .bf16⟩
  | .local _ .vmem, ⟨5, _⟩ => ⟨S1x2048x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x64, .bf16⟩
  | .local _ .vmem, ⟨9, _⟩ => ⟨S1x256x64, .bf16⟩
  | .local _ .vmem, ⟨10, _⟩ => ⟨S1x64x256, .bf16⟩
  | .local _ .vmem, ⟨11, _⟩ => ⟨S1x64x256, .bf16⟩
  | .local _ .vmem, ⟨12, _⟩ => ⟨S1x1x1x512x64, .bf16⟩
  | .local _ .vmem, ⟨13, _⟩ => ⟨S1x1x1x512x64, .bf16⟩
  | .local _ .vmem, ⟨14, _⟩ => ⟨S1x1x1x64x512, .bf16⟩
  | .local _ .vmem, ⟨15, _⟩ => ⟨S1x1x1x64x512, .bf16⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference8Ideal.lean ====
abbrev S2x8192x1536 : Shape := ⟨3, ![2, 8192, 1536]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x8192x3x2x4x64 : Shape := ⟨6, ![2, 8192, 3, 2, 4, 64]⟩
abbrev S3x2x2x4x8192x64 : Shape := ⟨6, ![3, 2, 2, 4, 8192, 64]⟩
abbrev S1x2x2x4x8192x64 : Shape := ⟨6, ![1, 2, 2, 4, 8192, 64]⟩
abbrev S2x2x4x8192x64 : Shape := ⟨5, ![2, 2, 4, 8192, 64]⟩
abbrev S2x2x4x512x16x64 : Shape := ⟨6, ![2, 2, 4, 512, 16, 64]⟩
abbrev S2x2x4x511x16x64 : Shape := ⟨6, ![2, 2, 4, 511, 16, 64]⟩
abbrev S2x2x4x1x16x64 : Shape := ⟨6, ![2, 2, 4, 1, 16, 64]⟩
abbrev S2x2x4x512x32x64 : Shape := ⟨6, ![2, 2, 4, 512, 32, 64]⟩
abbrev S2x1x1x1x32x64 : Shape := ⟨6, ![2, 1, 1, 1, 32, 64]⟩
abbrev S2x2x4x512x2048 : Shape := ⟨5, ![2, 2, 4, 512, 2048]⟩
abbrev S2x2x4x512x256 : Shape := ⟨5, ![2, 2, 4, 512, 256]⟩
abbrev S2x1x1x1x256 : Shape := ⟨5, ![2, 1, 1, 1, 256]⟩
abbrev S_ : Shape := ⟨0, ![]⟩
abbrev S2x2x4x512x64 : Shape := ⟨5, ![2, 2, 4, 512, 64]⟩
abbrev S2x2x4x64x512 : Shape := ⟨5, ![2, 2, 4, 64, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1536, .f32⟩
  | .hbm, ⟨1, _⟩ => ⟨S2x32x64, .f32⟩
  | .hbm, ⟨2, _⟩ => ⟨S2x2048x256, .f32⟩
  | .hbm, ⟨3, _⟩ => ⟨S2x256, .f32⟩
  | .hbm, ⟨4, _⟩ => ⟨S2x256x64, .f32⟩
  | .hbm, ⟨5, _⟩ => ⟨S2x8192x3x2x4x64, .f32⟩
  | .hbm, ⟨6, _⟩ => ⟨S3x2x2x4x8192x64, .f32⟩
  | .hbm, ⟨7, _⟩ => ⟨S1x2x2x4x8192x64, .f32⟩
  | .hbm, ⟨8, _⟩ => ⟨S2x2x4x8192x64, .f32⟩
  | .hbm, ⟨9, _⟩ => ⟨S2x2x4x512x16x64, .f32⟩
  | .hbm, ⟨10, _⟩ => ⟨S2x2x4x511x16x64, .f32⟩
  | .hbm, ⟨11, _⟩ => ⟨S2x2x4x1x16x64, .f32⟩
  | .hbm, ⟨12, _⟩ => ⟨S2x2x4x512x16x64, .f32⟩
  | .hbm, ⟨13, _⟩ => ⟨S2x2x4x512x32x64, .f32⟩
  | .hbm, ⟨14, _⟩ => ⟨S2x1x1x1x32x64, .f32⟩
  | .hbm, ⟨15, _⟩ => ⟨S2x2x4x512x32x64, .f32⟩
  | .hbm, ⟨16, _⟩ => ⟨S2x2x4x512x32x64, .f32⟩
  | .hbm, ⟨17, _⟩ => ⟨S2x2x4x512x2048, .f32⟩
  | .hbm, ⟨18, _⟩ => ⟨S2x2x4x512x256, .f32⟩
  | .hbm, ⟨19, _⟩ => ⟨S2x1x1x1x256, .f32⟩
  | .hbm, ⟨20, _⟩ => ⟨S2x2x4x512x256, .f32⟩
  | .hbm, ⟨21, _⟩ => ⟨S2x2x4x512x256, .f32⟩
  | .hbm, ⟨22, _⟩ => ⟨S2x2x4x512x256, .f32⟩
  | .hbm, ⟨23, _⟩ => ⟨S2x2x4x512x256, .f32⟩
  | .hbm, ⟨24, _⟩ => ⟨S_, .f32⟩
  | .hbm, ⟨25, _⟩ => ⟨S2x2x4x512x256, .f32⟩
  | .hbm, ⟨26, _⟩ => ⟨S2x2x4x512x256, .f32⟩
  | .hbm, ⟨27, _⟩ => ⟨S2x2x4x512x256, .f32⟩
  | .hbm, ⟨28, _⟩ => ⟨S_, .f32⟩
  | .hbm, ⟨29, _⟩ => ⟨S2x2x4x512x256, .f32⟩
  | .hbm, ⟨30, _⟩ => ⟨S2x2x4x512x256, .f32⟩
  | .hbm, ⟨31, _⟩ => ⟨S2x2x4x512x256, .f32⟩
  | .hbm, ⟨32, _⟩ => ⟨S_, .f32⟩
  | .hbm, ⟨33, _⟩ => ⟨S2x2x4x512x256, .f32⟩
  | .hbm, ⟨34, _⟩ => ⟨S2x2x4x512x256, .f32⟩
  | .hbm, ⟨35, _⟩ => ⟨S_, .f32⟩
  | .hbm, ⟨36, _⟩ => ⟨S2x2x4x512x256, .f32⟩
  | .hbm, ⟨37, _⟩ => ⟨S2x2x4x512x256, .f32⟩
  | .hbm, ⟨38, _⟩ => ⟨S2x2x4x512x256, .f32⟩
  | .hbm, ⟨39, _⟩ => ⟨S2x2x4x512x64, .f32⟩
  | .hbm, ⟨40, _⟩ => ⟨S2x2x4x512x64, .bf16⟩
  | .hbm, ⟨41, _⟩ => ⟨S2x2x4x64x512, .bf16⟩
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel9.lean ====
abbrev S2x1024 : Shape := ⟨2, ![2, 1024]⟩
abbrev S4x1024x6144 : Shape := ⟨3, ![4, 1024, 6144]⟩
abbrev S4x6144 : Shape := ⟨2, ![4, 6144]⟩
abbrev S_ : Shape := ⟨0, ![]⟩
abbrev S16x1024 : Shape := ⟨2, ![16, 1024]⟩
abbrev S1 : Shape := ⟨1, ![1]⟩
abbrev S4x1x6144 : Shape := ⟨3, ![4, 1, 6144]⟩
abbrev S4x16x6144 : Shape := ⟨3, ![4, 16, 6144]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S4x1024x6144, .f32⟩
  | .hbm, ⟨2, _⟩ => ⟨S4x6144, .f32⟩
  | .hbm, ⟨3, _⟩ => ⟨S_, .f32⟩
  | .hbm, ⟨4, _⟩ => ⟨S16x1024, .f32⟩
  | .hbm, ⟨5, _⟩ => ⟨S_, .i32⟩
  | .hbm, ⟨6, _⟩ => ⟨S1, .i32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x1024 : Shape := ⟨2, ![2, 1024]⟩
abbrev S4x1024x6144 : Shape := ⟨3, ![4, 1024, 6144]⟩
abbrev S4x6144 : Shape := ⟨2, ![4, 6144]⟩
abbrev S_ : Shape := ⟨0, ![]⟩
abbrev S14x1024 : Shape := ⟨2, ![14, 1024]⟩
abbrev S16x1024 : Shape := ⟨2, ![16, 1024]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S4x1024x6144, .f32⟩
  | .hbm, ⟨2, _⟩ => ⟨S4x6144, .f32⟩
  | .hbm, ⟨3, _⟩ => ⟨S_, .f32⟩
  | .hbm, ⟨4, _⟩ => ⟨S14x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S4x6144x16, .f32⟩
  | .hbm, ⟨16, _⟩ => ⟨S4x16x6144, .f32⟩
  | .hbm, ⟨17, _⟩ => ⟨S4x1x6144, .f32⟩
  | .hbm, ⟨18, _⟩ => ⟨S4x16x6144, .f32⟩
  | .hbm, ⟨19, _⟩ => ⟨S4x16x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Proof.InProj.lean ====
/- The modulated input projection: what the kernel's result array holds after the run is the reference's term. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Kernel2Ideal.InProj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Where each window's block lies at grid point `t`, for all the points at once. -/
theorem idx : ∀ t : Fin cfg0.N, win0_0.index t = ![t.val / 48, t.val / 6 % 8, 0] ∧ win0_1.index t = ![t.val / 48, 0, 0]
    ∧ win0_2.index t = ![t.val / 48, 0, 0] ∧ win0_3.index t = ![0, t.val % 6]
    ∧ win0_4.index t = ![t.val / 48, t.val / 6 % 8, t.val % 6] :=
  (by decide +kernel : ∀ t : Fin grid0.N, _)

/-- The reference's term, over variables. -/
abbrev REF (x0 : FVec Ideal S2x8192x1024 .f32) (x1 x2 : FVec Ideal S2x1x1024 .f32)
    (x3 : FVec Ideal S1024x6144 .f32) : FVec Ideal S2x8192x6144 .f32 :=
  Cert.Reference2Ideal.Read.val_main_v6 (F := Ideal) x0 x1 x2 x3

/-- The modulated row block that the body computes at point `t` where it fills its scratch. -/
def H (c : Dev nD) (t : Fin cfg0.N) : Vec Ideal S1024x1024 .bf16 :=
  k0_pay1 (iblk m c 0 t) (iblk m c 1 t) (iblk m c 2 t)

/-- The scratch after point `t` holds the row block computed at the first point of its run of six. -/
theorem scratch (c : Dev nD) (t : Fin cfg0.N) :
    (outsAt0 m c t.val t.isLt).2 = H m c ⟨6 * (t.val / 6), Pipeline.run_start_lt t⟩ := by
  refine Pipeline.eq_of_write_hold (fun n h => (outsAt0 m c n h).2) 6 (H m c) ?_ ?_ t
  · intro t h
    show (outsAt0 m c t.val t.isLt).2 = _
    rw [outsAt0_A m c t h]
    frame_out
    rfl
  · intro t h
    show (outsAt0 m c t.val t.isLt).2 = _
    rw [outsAt0_B m c t h]
    rfl

/-- What point `t` leaves in its output block: its run's row block times its column block of the weights. -/
theorem out (c : Dev nD) (t : Fin cfg0.N) :
    (outsAt0 m c t.val t.isLt).1 = k0_pay2 (H m c ⟨6 * (t.val / 6), Pipeline.run_start_lt t⟩) (iblk m c 3 t) := by
  by_cases h : t.val % 6 = 0
  · have e : (⟨6 * (t.val / 6), Pipeline.run_start_lt t⟩ : Fin cfg0.N) = t := Fin.ext (by dsimp only; omega)
    rw [e, outsAt0_A m c t h]
    frame_out
    rfl
  · have e := scratch m c ⟨t.val - 1, Nat.lt_of_le_of_lt (Nat.sub_le _ _) t.isLt⟩
    have e' : (t.val - 1) / 6 = t.val / 6 := by omega
    simp only [e'] at e
    rw [outsAt0_B m c t h]
    frame_out
    rw [e]
    simp only [read_unread_whole]

/-- What the body stores at block index `y` of point `t` is the reference's term at the array index where `y` lies. -/
theorem point (c : Dev nD) (t : Fin cfg0.N) (y : S1x1024x1024.Idx) :
    k0_pay2 (H m c ⟨6 * (t.val / 6), Pipeline.run_start_lt t⟩) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have ht := lt_of_lt_of_eq t.isLt (show cfg0.N = 96 from N_0)
  have q := idx ⟨6 * (t.val / 6), Pipeline.run_start_lt t⟩
  simp only [show 6 * (t.val / 6) / 48 = t.val / 48 by omega, show 6 * (t.val / 6) / 6 = t.val / 6 by omega] at q
  pointwise [k0_pay2, H, k0_pay1, REF, Cert.Reference2Ideal.Read.val_main_cst, Cert.Reference2Ideal.Read.val_main_v0, Cert.Reference2Ideal.Read.val_main_v1, Cert.Reference2Ideal.Read.val_main_v2, Cert.Reference2Ideal.Read.val_main_v3, Cert.Reference2Ideal.Read.val_main_v4, Cert.Reference2Ideal.Read.val_main_v5, Cert.Reference2Ideal.Read.val_main_v6]
  blk_point [iblk, V, idx t, q]

/-- The result array after the run is the reference's term of the arguments. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, out]
  exact point m c t y

end Cert.Kernel2Ideal.InProj

end
-- ==== Proof.OutProj.lean ====
/- The output projection of a layer: what the kernel's result array holds after the run is the reference's term. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.OutProj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Where each window's block lies at grid point `t`, for all the points at once. -/
theorem idx : ∀ t : Fin cfg0.N, win0_0.index t = ![t.val / 8, t.val % 8, 0] ∧ win0_1.index t = ![0, 0]
    ∧ win0_2.index t = ![t.val / 8, t.val % 8, 0] ∧ win0_3.index t = ![t.val / 8, 0, 0]
    ∧ win0_4.index t = ![0, 0] ∧ win0_5.index t = ![0, 0] ∧ win0_6.index t = ![t.val / 8, t.val % 8, 0] :=
  (by decide +kernel : ∀ t : Fin grid0.N, _)

/-- The reference's term, over variables. -/
abbrev REF (x0 : FVec Ideal S2x8192x2048 .bf16) (x1 : FVec Ideal S2048x1024 .f32) (x2 : FVec Ideal S2x8192x1024 .f32)
    (x3 : FVec Ideal S2x1x1024 .f32) (x4 x5 : FVec Ideal S1024 .f32) : FVec Ideal S2x8192x1024 .f32 :=
  Cert.Reference3Ideal.Read.val_main_v30 (F := Ideal) x0 x1 x2 x3 x4 x5

/-- What the body stores at block index `y` of point `t` is the reference's term at the array index where `y` lies. -/
theorem point (c : Dev nD) (t : Fin cfg0.N) (y : S1x1024x1024.Idx) :
    k0_pay1 (k0_pay2 (iblk m c 5 t)) (k0_pay3 (iblk m c 0 t) (iblk m c 1 t) (iblk m c 2 t) (iblk m c 3 t) (iblk m c 4 t)) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, k0_pay2, k0_pay3, REF, Cert.Reference3Ideal.Read.val_main_v0, Cert.Reference3Ideal.Read.val_main_v1, Cert.Reference3Ideal.Read.val_main_cst, Cert.Reference3Ideal.Read.val_main_v2, Cert.Reference3Ideal.Read.val_main_v3, Cert.Reference3Ideal.Read.val_main_v4, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_cst_2, Cert.Reference3Ideal.Read.val_main_v14, Cert.Reference3Ideal.Read.val_main_v15, Cert.Reference3Ideal.Read.val_main_cst_3, Cert.Reference3Ideal.Read.val_main_v16, Cert.Reference3Ideal.Read.val_main_v17, Cert.Reference3Ideal.Read.val_main_v18, Cert.Reference3Ideal.Read.val_main_v19, Cert.Reference3Ideal.Read.val_main_cst_4, Cert.Reference3Ideal.Read.val_main_v20, Cert.Reference3Ideal.Read.val_main_v21, Cert.Reference3Ideal.Read.val_main_v22, Cert.Reference3Ideal.Read.val_main_v23, Cert.Reference3Ideal.Read.val_main_v24, Cert.Reference3Ideal.Read.val_main_v25, Cert.Reference3Ideal.Read.val_main_v26, Cert.Reference3Ideal.Read.val_main_v27, Cert.Reference3Ideal.Read.val_main_v28, Cert.Reference3Ideal.Read.val_main_v29, Cert.Reference3Ideal.Read.val_main_v30]
  blk_point [iblk, V, idx t]

/-- The result array after the run is the reference's term of the arguments. -/
theorem final (c : Dev nD) : (dats m 0 c).arrAt 6 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  exact point m c t y

end Cert.Kernel3Ideal.OutProj

end
-- ==== Proof.RetTab.lean ====
module

public import Idealize.ShloMosaic.Lib.Pipeline.ValueKit

@[expose] public section

set_option maxRecDepth 16384

noncomputable section

namespace Cert.RetTab

open Idealize.ShloMosaic

/-- A whole number as an exact value. -/
abbrev num (n : ℕ) : Ideal .f32 := FloatOps.sitofp .f32 (BitVec.ofNat 32 n)

/-- The `i`-th of the 128 evenly spaced exponents between 0 and 1. -/
def theta (i : Fin 128) : Ideal .f32 :=
  if i.val < 127 then
    0 * (1 - Ideal.div (num i.val) (Ideal.ofBits .f32 1123942400#32)) +
      Ideal.div (num i.val) (Ideal.ofBits .f32 1123942400#32)
  else 1

/-- The rotation angle of position `s` in frequency `i`. -/
def ang (s : Fin 8192) (i : Fin 128) : Ideal .f32 :=
  num s.val *
    Ideal.div 1 (Ideal.pow (Ideal.ofBits .f32 1176256512#32) (theta i))

/-- The logarithm of the decay of head `h`. -/
def lam (h : Fin 4) : Ideal .f32 :=
  Ideal.log1p (-Ideal.exp (Ideal.ofBits .f32 1060205080#32 *
    (Ideal.ofBits .f32 3231711232#32 - num h.val)))

/-- The decay between rows `i` and `e` of one chunk, zero above the diagonal. -/
def decE (h : Fin 4) (i e : Fin 128) : Ideal .f32 :=
  if 0 ≤ num i.val - num e.val then
    Ideal.exp (max (num i.val -
      num e.val) 0 * lam h)
  else 0

/-- The decay of the carried state as row `i` sees it. -/
def qdE (h : Fin 4) (i : Fin 128) : Ideal .f32 :=
  Ideal.exp ((num i.val + 1) * lam h)

/-- The decay of row `i` of a chunk up to the chunk's end. -/
def kdE (h : Fin 4) (i : Fin 128) : Ideal .f32 :=
  Ideal.exp ((Ideal.ofBits .f32 1123942400#32 - num i.val) * lam h)

/-- The decay of the state over one whole chunk. -/
def cdE (h : Fin 4) : Ideal .f32 :=
  Ideal.exp (Ideal.ofBits .f32 1124073472#32 * lam h)

/-- One entry of a row of 256 turned by the angles `a`: the first and second halves are the two
coordinates of 128 planes. -/
def rot (x : Fin 256 → Ideal .f32) (a : Fin 128 → Ideal .f32) (d : Fin 256) : Ideal .f32 :=
  if h : d.val < 128 then
    x ⟨d.val, by omega⟩ * Ideal.cos (a ⟨d.val, h⟩) - x ⟨128 + d.val, by omega⟩ * Ideal.sin (a ⟨d.val, h⟩)
  else
    x ⟨d.val - 128, by omega⟩ * Ideal.sin (a ⟨d.val - 128, by omega⟩) +
      x ⟨128 + (d.val - 128), by omega⟩ * Ideal.cos (a ⟨d.val - 128, by omega⟩)

/-- The position of row `i` of chunk `n`. -/
abbrev pos (n : Fin 64) (i : Fin 128) : Fin 8192 := ⟨n.val * 128 + i.val, by omega⟩

/-- Column `d` of head `h`'s 256 columns, counted from `o`. -/
abbrev col (o : ℕ) (ho : o ≤ 1024) (h : Fin 4) (d : Fin 256) : Fin 6144 := ⟨o + (h.val * 256 + d.val), by omega⟩

/-- Column `e` of head `h`'s 512 columns, counted from `o`. -/
abbrev vcol (o : ℕ) (ho : o ≤ 4096) (h : Fin 4) (e : Fin 512) : Fin 6144 := ⟨o + (h.val * 512 + e.val), by omega⟩

end Cert.RetTab

end
-- ==== Proof.RetGate.lean ====
/- The norm over a head's columns and the gate, over one row of numbers. -/
module

public import Idealize.ShloMosaic.Lib.Pipeline.ValueKit

@[expose] public section

noncomputable section

namespace Cert.RetGate

open Idealize.ShloMosaic

/-- Column `e` of a head's row `o`, normed by the row's mean and variance and multiplied by the gate's value times its
    logistic. -/
def gate (g : Ideal .f32) (o : Fin 512 → Ideal .f32) (e : Fin 512) : Ideal .f32 :=
  g * Ideal.div 1 (1 + Ideal.exp (-g)) *
    ((o e - Ideal.div (∑ x, o x) (Ideal.ofBits FTy.f32 1140850688#32)) *
      Ideal.rsqrt (Ideal.div (∑ x, (o x - Ideal.div (∑ y, o y) (Ideal.ofBits FTy.f32 1140850688#32)) *
          (o x - Ideal.div (∑ y, o y) (Ideal.ofBits FTy.f32 1140850688#32))) (Ideal.ofBits FTy.f32 1140850688#32)
        + Ideal.ofBits FTy.f32 925353388#32))

end Cert.RetGate

end
-- ==== Proof.RetChunk.lean ====
/- The retention kernel's unrolled chunks: each of the eight printed groups of operations is one and the same function of its
   loads, and one chunk's new state and output are read at an index. -/
module

public import proofs.«01_k».proof.Proof.Gen.KernelIdeal.Value
public import Idealize.ShloMosaic.Lib.Pipeline.ValueKit
public import Idealize.ShloMosaic.Lib.Pipeline.ReadBack
public import proofs.«01_k».proof.Proof.RetGate

@[expose] public section

set_option maxRecDepth 16384

noncomputable section

namespace Cert.KernelIdeal.Ret

open Idealize.ShloMosaic Idealize.ShloMosaic.TcCoe Idealize.SL.Sem
open Idealize.ShloMosaic.Pipeline (Dat)
open Cert.KernelIdeal Cert.KernelIdeal.Gen

/-- The state after a chunk, from the state before it and the chunk's loads. -/
def newSt (st : Vec Ideal S256x512 .f32) (cs sn : Vec Ideal S128x128 .f32) (k : Vec Ideal S1x128x256 .f32)
    (v : Vec Ideal S1x128x512 .f32) (kd : Vec Ideal S1x128x256 .f32) (cd : Vec Ideal S1x1x512 .f32) :
    FVec Ideal S256x512 .f32 :=
  k0_pay10 st (k0_pay6 cs sn k) (k0_pay7 v) kd cd

/-- The rows a chunk stores, from the state before it and the chunk's loads. -/
def rows (st : Vec Ideal S256x512 .f32) (cs sn : Vec Ideal S128x128 .f32) (q k : Vec Ideal S1x128x256 .f32)
    (v : Vec Ideal S1x128x512 .f32) (dec : Vec Ideal S1x128x128 .f32) (qd : Vec Ideal S1x128x512 .f32)
    (g : Vec Ideal S1x128x512 .f32) : FVec Ideal S1x128x512 .bf16 :=
  k0_pay12 (k0_pay11 st (k0_pay7 v) (k0_pay8 cs sn q) (k0_pay9 cs sn k) (constant S128x128 .f32 0x00000000#32) dec qd) g

section Groups

variable (st : Vec Ideal S256x512 .f32) (cs sn : Vec Ideal S128x128 .f32) (q k : Vec Ideal S1x128x256 .f32)
  (v : Vec Ideal S1x128x512 .f32) (dec : Vec Ideal S1x128x128 .f32) (qd : Vec Ideal S1x128x512 .f32)
  (g : Vec Ideal S1x128x512 .f32) (kd : Vec Ideal S1x128x256 .f32) (cd : Vec Ideal S1x1x512 .f32)

/-- The second chunk's state. -/
theorem st1 : k0_pay18 st (k0_pay16 cs sn k) (k0_pay17 v) kd cd = newSt st cs sn k v kd cd := rfl
/-- The third chunk's state. -/
theorem st2 : k0_pay27 st (k0_pay25 cs sn k) v kd cd = newSt st cs sn k v kd cd := rfl
/-- The fourth chunk's state. -/
theorem st3 : k0_pay36 st (k0_pay34 cs sn k) v kd cd = newSt st cs sn k v kd cd := rfl
/-- The fifth chunk's state. -/
theorem st4 : k0_pay46 st (k0_pay43 cs sn k) v kd cd = newSt st cs sn k v kd cd := rfl
/-- The sixth chunk's state. -/
theorem st5 : k0_pay60 st (k0_pay50 cs) (k0_pay55 k) (k0_pay56 cs sn k) (k0_pay57 sn k) v kd cd
    = newSt st cs sn k v kd cd := rfl
/-- The seventh chunk's state. -/
theorem st6 : k0_pay73 st (k0_pay64 cs) (k0_pay65 sn) (k0_pay68 k) (k0_pay69 k) (k0_pay70 cs k) v kd cd
    = newSt st cs sn k v kd cd := rfl
/-- The eighth chunk's state. -/
theorem st7 : k0_pay83 st (k0_pay77 cs) (k0_pay78 sn) (k0_pay80 k) v kd cd = newSt st cs sn k v kd cd := rfl

/-- The second chunk's rows. -/
theorem rows1 : k0_pay21 (k0_pay19 st (k0_pay15 cs sn q) (k0_pay16 cs sn k) (k0_pay17 v) dec qd)
    (k0_pay20 st (k0_pay15 cs sn q) (k0_pay16 cs sn k) (k0_pay17 v) dec qd) g = rows st cs sn q k v dec qd g := rfl
/-- The third chunk's rows. -/
theorem rows2 : k0_pay30 (k0_pay28 st (k0_pay24 cs sn q) (k0_pay25 cs sn k) v dec qd)
    (k0_pay29 st (k0_pay24 cs sn q) (k0_pay25 cs sn k) v dec qd) (Scalar.ofBits .f32 0x3727C5AC#32) g
    = rows st cs sn q k v dec qd g := rfl
/-- The fourth chunk's rows. -/
theorem rows3 : k0_pay39 (k0_pay37 st (k0_pay33 cs sn q) (k0_pay34 cs sn k) v dec qd)
    (k0_pay38 st (k0_pay33 cs sn q) (k0_pay34 cs sn k) v dec qd) (Scalar.ofBits .f32 0x44000000#32) g
    = rows st cs sn q k v dec qd g := rfl
/-- The fifth chunk's rows. -/
theorem rows4 : k0_pay49 (k0_pay47 st (k0_pay42 cs sn q) (k0_pay43 cs sn k) v dec qd)
    (k0_pay48 st (k0_pay42 cs sn q) (k0_pay43 cs sn k) v dec qd) g = rows st cs sn q k v dec qd g := rfl
/-- The sixth chunk's rows. -/
theorem rows5 : k0_pay63
    (k0_pay61 st (k0_pay50 cs) (k0_pay52 cs sn q) (k0_pay55 k) (k0_pay56 cs sn k) (k0_pay57 sn k) v dec qd)
    (k0_pay62 st (k0_pay50 cs) (k0_pay52 cs sn q) (k0_pay55 k) (k0_pay56 cs sn k) (k0_pay57 sn k) v dec qd) g
    = rows st cs sn q k v dec qd g := rfl
/-- The seventh chunk's rows. -/
theorem rows6 : k0_pay76
    (k0_pay74 st (k0_pay64 cs) (k0_pay65 sn) (k0_pay66 cs sn q) (k0_pay68 k) (k0_pay69 k) (k0_pay70 cs k) v dec qd)
    (k0_pay75 st (k0_pay64 cs) (k0_pay65 sn) (k0_pay66 cs sn q) (k0_pay68 k) (k0_pay69 k) (k0_pay70 cs k) v dec qd)
    (Scalar.ofBits .f32 0x44000000#32) g
    = rows st cs sn q k v dec qd g := rfl
/-- The eighth chunk's rows. -/
theorem rows7 : k0_pay1 (k0_pay84 st (k0_pay77 cs) (k0_pay78 sn) (k0_pay79 cs sn q) (k0_pay80 k) v dec qd) g
    = rows st cs sn q k v dec qd g := rfl

end Groups

/-- A chunk's new state at an index: the decayed state and the decayed keys times the values. -/
theorem newSt_apply (st : Vec Ideal S256x512 .f32) (cs sn : Vec Ideal S128x128 .f32) (k : Vec Ideal S1x128x256 .f32)
    (v : Vec Ideal S1x128x512 .f32) (kd : Vec Ideal S1x128x256 .f32) (cd : Vec Ideal S1x1x512 .f32)
    (j : S256x512.Idx) : newSt st cs sn k v kd cd j = st j * cd (ix3 0 0 (j 1))
      + ∑ i : Fin 128, k0_pay6 cs sn k (ix2 i (j 0)) * kd (ix3 0 i (j 0)) * v (ix3 0 i (j 1)) := by
  unfold newSt
  generalize k0_pay6 cs sn k = kr
  pointwise [k0_pay10, k0_pay7]

/-- A chunk's rows before the norm. -/
def oV (st : Vec Ideal S256x512 .f32) (cs sn : Vec Ideal S128x128 .f32) (q k : Vec Ideal S1x128x256 .f32)
    (v : Vec Ideal S1x128x512 .f32) (dec : Vec Ideal S1x128x128 .f32) (qd : Vec Ideal S1x128x512 .f32) :
    FVec Ideal S128x512 .f32 :=
  addf
    (matmul dot_S128x128_S128x512_S128x512_1_0_0_1_n_n none
      (truncf .bf16 (mulf
        (matmul dot_S128x256_S128x256_S128x128_1_1_0_0_n_n none (k0_pay8 cs sn q) (k0_pay9 cs sn k) (constant S128x128 .f32 0x00000000#32))
        (shapeCast S128x128 dec shapeCasts_S1x128x128_S128x128)) bitsLt_bf16_f32)
      (k0_pay7 v) (constant S128x512 .f32 0x00000000#32))
    (mulf
      (matmul dot_S128x256_S256x512_S128x512_1_0_0_1_n_n none (k0_pay8 cs sn q) (truncf .bf16 st bitsLt_bf16_f32)
        (constant S128x512 .f32 0x00000000#32))
      (shapeCast S128x512 qd shapeCasts_S1x128x512_S128x512))

/-- The norm and the gate of a chunk's rows. -/
def gateV (o : FVec Ideal S128x512 .f32) (g : Vec Ideal S1x128x512 .f32) : FVec Ideal S1x128x512 .bf16 :=
  have c : FVec Ideal S128x512 .f32 := subf o (broadcastTo S128x512
    (divf (shapeCast S128x1 (multiReduction .add [1] S128 o 0x00000000#32 reduces_S128x512_S128 (.inl rfl) rfl) shapeCasts_S128_S128x1)
      (broadcast S128x1 (Scalar.ofBits .f32 0x44000000#32))) broadcasts_S128x1_S128x512)
  k0_pay12 (mulf c (broadcastTo S128x512 (rsqrt (addf
    (divf (shapeCast S128x1 (multiReduction .add [1] S128 (mulf c c) 0x00000000#32 reduces_S128x512_S128 (.inl rfl) rfl)
      shapeCasts_S128_S128x1) (broadcast S128x1 (Scalar.ofBits .f32 0x44000000#32)))
    (broadcast S128x1 (Scalar.ofBits .f32 0x3727C5AC#32)))) broadcasts_S128x1_S128x512)) g

/-- A chunk's stored rows are its rows normed and gated. -/
theorem rows_eq (st : Vec Ideal S256x512 .f32) (cs sn : Vec Ideal S128x128 .f32) (q k : Vec Ideal S1x128x256 .f32)
    (v : Vec Ideal S1x128x512 .f32) (dec : Vec Ideal S1x128x128 .f32) (qd : Vec Ideal S1x128x512 .f32)
    (g : Vec Ideal S1x128x512 .f32) : rows st cs sn q k v dec qd g = gateV (oV st cs sn q k v dec qd) g := rfl

/-- The rounded rotated queries are the rotated queries. -/
theorem pay8_apply (cs sn : Vec Ideal S128x128 .f32) (q : Vec Ideal S1x128x256 .f32) (i : S128x256.Idx) :
    k0_pay8 cs sn q i = k0_pay15 cs sn q i := rfl

/-- The rounded rotated keys are the rotated keys. -/
theorem pay9_apply (cs sn : Vec Ideal S128x128 .f32) (q : Vec Ideal S1x128x256 .f32) (i : S128x256.Idx) :
    k0_pay9 cs sn q i = k0_pay6 cs sn q i := rfl

/-- A chunk's rows before the norm at an index. -/
theorem oV_apply (st : Vec Ideal S256x512 .f32) (cs sn : Vec Ideal S128x128 .f32) (q k : Vec Ideal S1x128x256 .f32)
    (v : Vec Ideal S1x128x512 .f32) (dec : Vec Ideal S1x128x128 .f32) (qd : Vec Ideal S1x128x512 .f32)
    (j : S128x512.Idx) : oV st cs sn q k v dec qd j
      = ∑ i : Fin 128, (∑ d : Fin 256, k0_pay15 cs sn q (ix2 (j 0) d) * k0_pay6 cs sn k (ix2 i d))
          * dec (ix3 0 (j 0) i) * v (ix3 0 i (j 1))
        + (∑ d : Fin 256, k0_pay15 cs sn q (ix2 (j 0) d) * st (ix2 d (j 1))) * qd (ix3 0 (j 0) (j 1)) := by
  simp only [← pay8_apply, ← pay9_apply]
  unfold oV
  generalize k0_pay8 cs sn q = qr
  generalize k0_pay9 cs sn k = kr
  pointwise [k0_pay7]

/-- A chunk's stored rows at an index. -/
theorem gateV_apply (o : FVec Ideal S128x512 .f32) (g : Vec Ideal S1x128x512 .f32) (j : S1x128x512.Idx) :
    gateV o g j = Cert.RetGate.gate (g j) (fun e => o (ix2 (j 1) e)) (j 2) := by
  unfold gateV Cert.RetGate.gate
  pointwise [k0_pay12]
  rfl

end Cert.KernelIdeal.Ret

end
-- ==== Proof.RetTabK.lean ====
module

public import proofs.«01_k».proof.Proof.RetTab
public import proofs.«01_k».proof.Proof.RetChunk
public import proofs.«01_k».proof.Proof.Gen.KernelIdeal.Value
public import Idealize.ShloMosaic.Lib.StableHlo.RunRead
public import Idealize.ShloMosaic.Lib.StableHlo.RunLoop

@[expose] public section

set_option maxRecDepth 16384

noncomputable section

namespace Cert.KernelIdeal.Ret

open Idealize.ShloMosaic Idealize.ShloMosaic.TcCoe Idealize.SL.Sem
open Idealize.ShloMosaic.StableHlo
open Idealize.ShloMosaic.Pipeline (Dat)
open Cert.KernelIdeal Cert.KernelIdeal.Gen
open Cert.RetTab

/-- The evenly spaced exponents, read one at a time. -/
theorem th1 (W : Valuation τ sig (Elt Ideal)) (j : S128.Idx)
    (h0 : W (Proc.devRef .tc main_cst) = constant (F := Ideal) S_ .f32 0x00000000#32)
    (h1 : W (Proc.devRef .tc main_cst_0) = constant (F := Ideal) S_ .f32 0x3F800000#32) :
    (after hostOps0_1 W (Proc.devRef .tc main_v1) : FVec Ideal S128 .f32) j = theta (j 0) := by
  after_reads_simp
  simp only [TRef.toBuf, TRef.ofBuf, cast_eq]
  pointwise
  after_reads_simp
  simp only [TRef.toBuf, TRef.ofBuf, cast_eq]
  rw [h0, h1]
  simp only [id]
  pointwise
  rfl

/-- Cosines of the angles. -/
theorem cos_read (W : Valuation τ sig (Elt Ideal)) (j : S8192x128.Idx)
    (h0 : W (Proc.devRef .tc main_v0) = sitofp (F := Ideal) .f32 (iotaInDim S8192 32 0))
    (h1 : ∀ i : S128.Idx, (W (Proc.devRef .tc main_v1) : FVec Ideal S128 .f32) i = theta (i 0)) :
    (after hostOps0_4 (after hostOps0_3 (after hostOps0_2 W)) (Proc.devRef .tc main_v55) : FVec Ideal S8192x128 .f32) j = Ideal.cos (ang (j 0) (j 1)) := by
  after_reads_simp
  rw [h0]
  revert h1
  generalize W (Proc.devRef .tc main_v1) = y
  intro h1
  pointwise
  exact congrArg (fun z => Ideal.cos (num (j 0).val * Ideal.div 1 (Ideal.pow (Ideal.ofBits .f32 1176256512#32) z))) (h1 (ix1 (j 1)))

/-- Sines of the angles. -/
theorem sin_read (W : Valuation τ sig (Elt Ideal)) (j : S8192x128.Idx)
    (h0 : W (Proc.devRef .tc main_v0) = sitofp (F := Ideal) .f32 (iotaInDim S8192 32 0))
    (h1 : ∀ i : S128.Idx, (W (Proc.devRef .tc main_v1) : FVec Ideal S128 .f32) i = theta (i 0)) :
    (after hostOps0_4 (after hostOps0_3 (after hostOps0_2 W)) (Proc.devRef .tc main_v56) : FVec Ideal S8192x128 .f32) j = Ideal.sin (ang (j 0) (j 1)) := by
  after_reads_simp
  rw [h0]
  revert h1
  generalize W (Proc.devRef .tc main_v1) = y
  intro h1
  pointwise
  exact congrArg (fun z => Ideal.sin (num (j 0).val * Ideal.div 1 (Ideal.pow (Ideal.ofBits .f32 1176256512#32) z))) (h1 (ix1 (j 1)))

variable (m : (ℓ : Loc nD τ sig) → Buf (Elt Ideal) ℓ) (c : Dev nD)

/-- The contents after the exponents are made. -/
abbrev W1 : Valuation τ sig (Elt Ideal) := after hostOps0_1 (after hostOps0 (launchContents m c))

/-- The contents at the call, segment by segment. -/
theorem V_eq (b : Ref sig .tc) : V m c b = after hostOps0_4 (after hostOps0_3 (after hostOps0_2 (W1 m c))) (Proc.devRef .tc b) := by
  unfold V
  simp only [← Idealize.ShloMosaic.StableHlo.afterL_eq_after_flatten, Idealize.ShloMosaic.StableHlo.afterL_cons, Idealize.ShloMosaic.StableHlo.afterL_nil]

theorem W1_th (i : S128.Idx) : (W1 m c (Proc.devRef .tc main_v1) : FVec Ideal S128 .f32) i = theta (i 0) :=
  th1 _ i (by after_reads_simp) (by after_reads_simp)

theorem W1_pos : W1 m c (Proc.devRef .tc main_v0) = sitofp (F := Ideal) .f32 (iotaInDim S8192 32 0) := by
  after_reads_simp

theorem V_cos (j : S8192x128.Idx) : (V m c main_v55 : FVec Ideal S8192x128 .f32) j = Ideal.cos (ang (j 0) (j 1)) := by
  rw [V_eq]
  exact cos_read _ j (W1_pos m c) (W1_th m c)

theorem V_sin (j : S8192x128.Idx) : (V m c main_v56 : FVec Ideal S8192x128 .f32) j = Ideal.sin (ang (j 0) (j 1)) := by
  rw [V_eq]
  exact sin_read _ j (W1_pos m c) (W1_th m c)

theorem V_dec (j : S4x128x128.Idx) : (V m c main_v35 : FVec Ideal S4x128x128 .f32) j = decE (j 0) (j 1) (j 2) := by
  rw [V_eq]
  after_reads_simp
  simp only [TRef.toBuf, TRef.ofBuf, cast_eq, id]
  pointwise
  rfl

theorem V_qd (j : S4x128x512.Idx) : (V m c main_v58 : FVec Ideal S4x128x512 .f32) j = qdE (j 0) (j 1) := by
  rw [V_eq]
  after_reads_simp
  pointwise
  rfl

theorem V_kd (j : S4x128x256.Idx) : (V m c main_v60 : FVec Ideal S4x128x256 .f32) j = kdE (j 0) (j 1) := by
  rw [V_eq]
  after_reads_simp
  pointwise
  rfl

theorem V_cd (j : S4x1x512.Idx) : (V m c main_v62 : FVec Ideal S4x1x512 .f32) j = cdE (j 0) := by
  rw [V_eq]
  after_reads_simp
  pointwise
  rfl

theorem V_arg : V m c main_arg0 = m ((c : Thread nD τ).loc main_arg0) := by
  rw [V_eq]
  unfold W1
  after_reads_simp

/-- The turned queries of a chunk. -/
theorem pay15_apply (cs sn : Vec Ideal S128x128 .f32) (q : Vec Ideal S1x128x256 .f32) (a : Fin 128 → Fin 128 → Ideal .f32)
    (hc : ∀ i d, cs (ix2 i d) = Ideal.cos (a i d)) (hs : ∀ i d, sn (ix2 i d) = Ideal.sin (a i d)) (i : Fin 128) (d : Fin 256) :
    k0_pay15 cs sn q (ix2 i d) = rot (fun d => q (ix3 0 i d)) (a i) d := by
  pointwise [k0_pay15, k0_pay13, k0_pay14]
  simp only [hc, hs]
  rfl

/-- The turned and scaled keys of a chunk. -/
theorem pay6_apply (cs sn : Vec Ideal S128x128 .f32) (q : Vec Ideal S1x128x256 .f32) (a : Fin 128 → Fin 128 → Ideal .f32)
    (hc : ∀ i d, cs (ix2 i d) = Ideal.cos (a i d)) (hs : ∀ i d, sn (ix2 i d) = Ideal.sin (a i d)) (i : Fin 128) (d : Fin 256) :
    k0_pay6 cs sn q (ix2 i d) = rot (fun d => q (ix3 0 i d)) (a i) d * Ideal.ofBits .f32 0x3D800000#32 := by
  pointwise [k0_pay6, k0_pay4, k0_pay5]
  simp only [hc, hs]
  rfl

end Cert.KernelIdeal.Ret

end
-- ==== Proof.RetRef.lean ====
/- The reference's scan over the chunks: what the carried state and the collected rows hold after any number of trips. -/
module

public import proofs.«01_k».proof.Proof.Gen.ReferenceIdeal.Run
public import Idealize.ShloMosaic.Lib.Pipeline.ValueKit
public import Idealize.ShloMosaic.Lib.DynamicIndex
public import Idealize.ShloMosaic.Lib.WordCmp
public import proofs.«01_k».proof.Proof.RetGate

@[expose] public section

set_option maxRecDepth 16384

noncomputable section

namespace Cert.ReferenceIdeal.Ret

open Idealize.ShloMosaic Idealize.ShloMosaic.TcCoe Idealize.SL.Sem
open Idealize.ShloMosaic.StableHlo
open Cert.ReferenceIdeal Cert.ReferenceIdeal.Gen Cert.ReferenceIdeal.Value

/-- A chunk's number below the number of chunks. -/
abbrev ch (n : ℕ) : Fin 64 := ⟨n % 64, Nat.mod_lt _ (by decide)⟩

/-- The recurrent state before chunk `n`, per batch and head: decayed by the head's factor and added to by the chunk's
    decayed keys times its values. -/
def stF (kk : FVec Ideal S64x2x4x128x256 .f32) (vv : FVec Ideal S64x2x4x128x512 .f32) (cd : FVec Ideal S4 .f32)
    (kd : FVec Ideal S4x128 .f32) : ℕ → FVec Ideal S2x4x256x512 .f32
  | 0 => fun _ => 0
  | n + 1 => fun j => stF kk vv cd kd n j * cd (ix1 (j 1))
      + ∑ i : Fin 128, kk (ix5 (ch n) (j 0) (j 1) i (j 2)) * kd (ix2 (j 1) i) * vv (ix5 (ch n) (j 0) (j 1) i (j 3))

/-- Chunk `n`'s rows before the norm: the decayed scores inside the chunk times its values, and the queries times the
    state before the chunk. -/
def oF (qq kk : FVec Ideal S64x2x4x128x256 .f32) (vv : FVec Ideal S64x2x4x128x512 .f32) (dec : FVec Ideal S4x128x128 .f32)
    (qd : FVec Ideal S4x128 .f32) (cd : FVec Ideal S4 .f32) (kd : FVec Ideal S4x128 .f32) (n : ℕ) :
    FVec Ideal S2x4x128x512 .f32 := fun j =>
  ∑ i : Fin 128, (∑ d : Fin 256, qq (ix5 (ch n) (j 0) (j 1) (j 2) d) * kk (ix5 (ch n) (j 0) (j 1) i d))
      * dec (ix3 (j 1) (j 2) i) * vv (ix5 (ch n) (j 0) (j 1) i (j 3))
    + (∑ d : Fin 256, qq (ix5 (ch n) (j 0) (j 1) (j 2) d) * stF kk vv cd kd n (ix4 (j 0) (j 1) d (j 3))) * qd (ix2 (j 1) (j 2))

/-- A slice of one chunk of 256 columns, at an index. -/
theorem slice256 (x : FVec Ideal S64x2x4x128x256 .f32) (start : Fin 5 → Int) (n : ℕ) (hn : n < 64)
    (hs : ∀ a, start a = ((![n, 0, 0, 0, 0] : Fin 5 → ℕ) a : ℤ)) (j : S2x4x128x256.Idx) :
    (shapeCast S2x4x128x256 (Host.dynamicSlice S1x2x4x128x256 x start sliceFits_S64x2x4x128x256_S1x2x4x128x256)
      shapeCasts_S1x2x4x128x256_S2x4x128x256) j = x (ix5 ⟨n, hn⟩ (j 0) (j 1) (j 2) (j 3)) := by
  rw [Host.dynamicSlice_eq_extractStridedSlice S1x2x4x128x256 x start ![n, 0, 0, 0, 0] _
    ⟨rfl, by intro a; fin_cases a <;> simp <;> omega⟩ hs]
  pointwise

/-- A slice of one chunk of 512 columns, at an index. -/
theorem slice512 (x : FVec Ideal S64x2x4x128x512 .f32) (start : Fin 5 → Int) (n : ℕ) (hn : n < 64)
    (hs : ∀ a, start a = ((![n, 0, 0, 0, 0] : Fin 5 → ℕ) a : ℤ)) (j : S2x4x128x512.Idx) :
    (shapeCast S2x4x128x512 (Host.dynamicSlice S1x2x4x128x512 x start sliceFits_S64x2x4x128x512_S1x2x4x128x512)
      shapeCasts_S1x2x4x128x512_S2x4x128x512) j = x (ix5 ⟨n, hn⟩ (j 0) (j 1) (j 2) (j 3)) := by
  rw [Host.dynamicSlice_eq_extractStridedSlice S1x2x4x128x512 x start ![n, 0, 0, 0, 0] _
    ⟨rfl, by intro a; fin_cases a <;> simp <;> omega⟩ hs]
  pointwise

/-- One trip's new state over the words it reads. -/
def stepS (x8 : FVec Ideal S2x4x256x512 .f32) (x5 : FVec Ideal S4 .f32) (k : FVec Ideal S2x4x128x256 .f32)
    (x6 : FVec Ideal S4x128 .f32) (v : FVec Ideal S2x4x128x512 .f32) : FVec Ideal S2x4x256x512 .f32 :=
  addf (mulf x8 (broadcastInDim S2x4x256x512 ![0, 1, 2, 3] bcast_S1x4x1x1_S2x4x256x512_0_1_2_3
      (broadcastInDim S1x4x1x1 ![1, 2, 3] bcast_S4x1x1_S1x4x1x1_1_2_3 (broadcastInDim S4x1x1 ![0] bcast_S4_S4x1x1_0 x5))))
    (Host.dotGeneral dot_S2x4x128x256_S2x4x128x512_S2x4x256x512_2_2_3_3_01_01 none
      (mulf k (broadcastInDim S2x4x128x256 ![0, 1, 2, 3] bcast_S1x4x128x1_S2x4x128x256_0_1_2_3
        (broadcastInDim S1x4x128x1 ![1, 2, 3] bcast_S4x128x1_S1x4x128x1_1_2_3
          (broadcastInDim S4x128x1 ![0, 1] bcast_S4x128_S4x128x1_0_1 x6)))) v)

/-- One trip's new state at an index. -/
theorem stepS_apply (x8 : FVec Ideal S2x4x256x512 .f32) (x5 : FVec Ideal S4 .f32) (k : FVec Ideal S2x4x128x256 .f32)
    (x6 : FVec Ideal S4x128 .f32) (v : FVec Ideal S2x4x128x512 .f32) (j : S2x4x256x512.Idx) :
    stepS x8 x5 k x6 v j = x8 j * x5 (ix1 (j 1))
      + ∑ i : Fin 128, k (ix4 (j 0) (j 1) i (j 2)) * x6 (ix2 (j 1) i) * v (ix4 (j 0) (j 1) i (j 3)) := by
  pointwise [stepS]

/-- One trip's rows over the words it reads. -/
def stepO (q k : FVec Ideal S2x4x128x256 .f32) (x3 : FVec Ideal S4x128x128 .f32) (v : FVec Ideal S2x4x128x512 .f32)
    (x8 : FVec Ideal S2x4x256x512 .f32) (x4 : FVec Ideal S4x128 .f32) : FVec Ideal S2x4x128x512 .f32 :=
  addf (Host.dotGeneral dot_S2x4x128x128_S2x4x128x512_S2x4x128x512_3_2_2_3_01_01 none
      (mulf (Host.dotGeneral dot_S2x4x128x256_S2x4x128x256_S2x4x128x128_3_3_2_2_01_01 none q k)
        (broadcastInDim S2x4x128x128 ![0, 1, 2, 3] bcast_S1x4x128x128_S2x4x128x128_0_1_2_3
          (broadcastInDim S1x4x128x128 ![1, 2, 3] bcast_S4x128x128_S1x4x128x128_1_2_3 x3))) v)
    (mulf (Host.dotGeneral dot_S2x4x128x256_S2x4x256x512_S2x4x128x512_3_2_2_3_01_01 none q x8)
      (broadcastInDim S2x4x128x512 ![0, 1, 2, 3] bcast_S1x4x128x1_S2x4x128x512_0_1_2_3
        (broadcastInDim S1x4x128x1 ![1, 2, 3] bcast_S4x128x1_S1x4x128x1_1_2_3
          (broadcastInDim S4x128x1 ![0, 1] bcast_S4x128_S4x128x1_0_1 x4))))

/-- One trip's rows at an index. -/
theorem stepO_apply (q k : FVec Ideal S2x4x128x256 .f32) (x3 : FVec Ideal S4x128x128 .f32) (v : FVec Ideal S2x4x128x512 .f32)
    (x8 : FVec Ideal S2x4x256x512 .f32) (x4 : FVec Ideal S4x128 .f32) (j : S2x4x128x512.Idx) :
    stepO q k x3 v x8 x4 j
      = ∑ i : Fin 128, (∑ d : Fin 256, q (ix4 (j 0) (j 1) (j 2) d) * k (ix4 (j 0) (j 1) i d))
          * x3 (ix3 (j 1) (j 2) i) * v (ix4 (j 0) (j 1) i (j 3))
        + (∑ d : Fin 256, q (ix4 (j 0) (j 1) (j 2) d) * x8 (ix4 (j 0) (j 1) d (j 3))) * x4 (ix2 (j 1) (j 2)) := by
  pointwise [stepO]

/-- Writing chunk `n` into the collected rows, at an index. -/
theorem put (x : FVec Ideal S64x2x4x128x512 .f32) (o : FVec Ideal S2x4x128x512 .f32) (start : Fin 5 → Int) (n : ℕ) (hn : n < 64)
    (hs : ∀ a, start a = ((![n, 0, 0, 0, 0] : Fin 5 → ℕ) a : ℤ)) (j : S64x2x4x128x512.Idx) :
    (Host.dynamicUpdateSlice x (broadcastInDim S1x2x4x128x512 ![1, 2, 3, 4] bcast_S2x4x128x512_S1x2x4x128x512_1_2_3_4 o) start
      updateFits_S64x2x4x128x512_S1x2x4x128x512) j
      = if (j 0).val = n then o (ix4 (j 1) (j 2) (j 3) (j 4)) else x j := by
  rw [WordCmp.dynamicUpdateSlice_eq_update (u := S1x2x4x128x512) x _ start _ ![n, 0, 0, 0, 0] ⟨rfl, by intro a; fin_cases a <;> simp <;> omega⟩ hs]
  pointwise
  by_cases e : (j 0).val = n
  · rw [if_pos e, dif_pos ⟨e.ge, by omega⟩]
  · rw [if_neg e, dif_neg (by omega)]

/-- The starts of the scan's slices at trip `n`, read as numbers. -/
theorem starts (X : Valuation τ sig (Elt Ideal)) (n : ℕ) (hn : n < 64)
    (hc : X (Proc.devRef .tc main_v111_7) = fun _ => BitVec.ofNat 32 n) (a : Fin 5) :
    (((![X (Proc.devRef .tc main_v111_7), constantI S_ 32 0#32, constantI S_ 32 0#32, constantI S_ 32 0#32,
      constantI S_ 32 0#32] : Fin 5 → (⟨S_, .i32⟩ : BufTy).Contents (Elt Ideal))) a (Shape.Idx.first Gen.h_S_)).toInt
      = ((![n, 0, 0, 0, 0] : Fin 5 → ℕ) a : ℤ) := by
  rw [hc]
  fin_cases a
  · exact toInt_ofNat_of_lt (by omega)
  all_goals rfl

section Trips

variable (V : Valuation τ sig (Elt Ideal))

/-- The queries, by chunk. -/
abbrev QQ : FVec Ideal S64x2x4x128x256 .f32 := V (Proc.devRef .tc main_v111_0)
/-- The keys, by chunk. -/
abbrev KK : FVec Ideal S64x2x4x128x256 .f32 := V (Proc.devRef .tc main_v111_1)
/-- The values, by chunk. -/
abbrev VV : FVec Ideal S64x2x4x128x512 .f32 := V (Proc.devRef .tc main_v111_2)
/-- The decay of the scores inside a chunk. -/
abbrev DEC : FVec Ideal S4x128x128 .f32 := V (Proc.devRef .tc main_v111_3)
/-- The decay of the queries. -/
abbrev QD : FVec Ideal S4x128 .f32 := V (Proc.devRef .tc main_v111_4)
/-- The decay over a whole chunk. -/
abbrev CD : FVec Ideal S4 .f32 := V (Proc.devRef .tc main_v111_5)
/-- The decay of the keys. -/
abbrev KD : FVec Ideal S4x128 .f32 := V (Proc.devRef .tc main_v111_6)
/-- The carried state. -/
abbrev SS : FVec Ideal S2x4x256x512 .f32 := V (Proc.devRef .tc main_v111_8)
/-- The collected rows. -/
abbrev OO : FVec Ideal S64x2x4x128x512 .f32 := V (Proc.devRef .tc main_v111_9)

/-- The chunk of queries that a trip reads. -/
theorem readQ (n : ℕ) (hn : n < 64) (hc : V (Proc.devRef .tc main_v111_7) = fun _ => BitVec.ofNat 32 n)
    (j : S2x4x128x256.Idx) : (res_main_while0b_v140 V : FVec Ideal S2x4x128x256 .f32) j
      = QQ V (ix5 ⟨n, hn⟩ (j 0) (j 1) (j 2) (j 3)) := slice256 (QQ V) _ n hn (starts V n hn hc) j

/-- The chunk of keys that a trip reads. -/
theorem readK (n : ℕ) (hn : n < 64) (hc : V (Proc.devRef .tc main_v111_7) = fun _ => BitVec.ofNat 32 n)
    (j : S2x4x128x256.Idx) : (res_main_while0b_v141 V : FVec Ideal S2x4x128x256 .f32) j
      = KK V (ix5 ⟨n, hn⟩ (j 0) (j 1) (j 2) (j 3)) := slice256 (KK V) _ n hn (starts V n hn hc) j

/-- The chunk of values that a trip reads. -/
theorem readV (n : ℕ) (hn : n < 64) (hc : V (Proc.devRef .tc main_v111_7) = fun _ => BitVec.ofNat 32 n)
    (j : S2x4x128x512.Idx) : (res_main_while0b_v142 V : FVec Ideal S2x4x128x512 .f32) j
      = VV V (ix5 ⟨n, hn⟩ (j 0) (j 1) (j 2) (j 3)) := slice512 (VV V) _ n hn (starts V n hn hc) j

/-- The state after a trip. -/
theorem tripS (n : ℕ) (hn : n < 64) (hc : V (Proc.devRef .tc main_v111_7) = fun _ => BitVec.ofNat 32 n)
    (j : S2x4x256x512.Idx) : SS (STEP V) j = SS V j * CD V (ix1 (j 1))
      + ∑ i : Fin 128, KK V (ix5 ⟨n, hn⟩ (j 0) (j 1) i (j 2)) * KD V (ix2 (j 1) i) * VV V (ix5 ⟨n, hn⟩ (j 0) (j 1) i (j 3)) := by
  have e : SS (STEP V) = stepS (SS V) (CD V) (res_main_while0b_v141 V) (KD V) (res_main_while0b_v142 V) := STEP_main_v111_8 V
  rw [e, stepS_apply]
  congr 1
  refine Finset.sum_congr rfl fun i _ => ?_
  rw [readK V n hn hc, readV V n hn hc]
  rfl

/-- The collected rows after a trip. -/
theorem tripO (n : ℕ) (hn : n < 64) (hc : V (Proc.devRef .tc main_v111_7) = fun _ => BitVec.ofNat 32 n)
    (j : S64x2x4x128x512.Idx) : OO (STEP V) j = if (j 0).val = n then
      ∑ i : Fin 128, (∑ d : Fin 256, QQ V (ix5 ⟨n, hn⟩ (j 1) (j 2) (j 3) d) * KK V (ix5 ⟨n, hn⟩ (j 1) (j 2) i d))
          * DEC V (ix3 (j 2) (j 3) i) * VV V (ix5 ⟨n, hn⟩ (j 1) (j 2) i (j 4))
        + (∑ d : Fin 256, QQ V (ix5 ⟨n, hn⟩ (j 1) (j 2) (j 3) d) * SS V (ix4 (j 1) (j 2) d (j 4))) * QD V (ix2 (j 2) (j 3))
      else OO V j := by
  have e : OO (STEP V) j = _ := (congrFun (STEP_main_v111_9 V) j).trans (put (OO V)
    (stepO (res_main_while0b_v140 V) (res_main_while0b_v141 V) (DEC V) (res_main_while0b_v142 V) (SS V) (QD V)) _ n hn
    (starts V n hn hc) j)
  rw [e, stepO_apply]
  simp only [readQ V n hn hc, readK V n hn hc, readV V n hn hc]
  rfl

/-- What the carried buffers hold after `n` trips from `V`. -/
structure After (n : ℕ) (X : Valuation τ sig (Elt Ideal)) : Prop where
  q : QQ X = QQ V
  k : KK X = KK V
  v : VV X = VV V
  dec : DEC X = DEC V
  qd : QD X = QD V
  cd : CD X = CD V
  kd : KD X = KD V
  ctr : X (Proc.devRef .tc main_v111_7) = fun _ => BitVec.ofNat 32 n
  st : SS X = stF (KK V) (VV V) (CD V) (KD V) n
  o : ∀ p, p < n → ∀ j : S64x2x4x128x512.Idx, (j 0).val = p →
    OO X j = oF (QQ V) (KK V) (VV V) (DEC V) (QD V) (CD V) (KD V) p (ix4 (j 1) (j 2) (j 3) (j 4))

/-- After `n` of the scan's trips the carried state is the recurrence's and the chunks before `n` are collected. -/
theorem after_iter (hc : V (Proc.devRef .tc main_v111_7) = fun _ => BitVec.ofNat 32 0) (hs : SS V = fun _ => 0) :
    ∀ n, n ≤ 64 → After V n (STEP^[n] V)
  | 0, _ => ⟨rfl, rfl, rfl, rfl, rfl, rfl, rfl, hc, hs, fun p hp => absurd hp (Nat.not_lt_zero p)⟩
  | n + 1, h => by
    have A := after_iter hc hs n (by omega)
    have hn : n < 64 := by omega
    rw [Function.iterate_succ_apply']
    generalize STEP^[n] V = X at A
    have en : (⟨n, hn⟩ : Fin 64) = ch n := Fin.ext (Nat.mod_eq_of_lt hn).symm
    refine ⟨(STEP_main_v111_0 X).trans A.q, (STEP_main_v111_1 X).trans A.k, (STEP_main_v111_2 X).trans A.v,
      (STEP_main_v111_3 X).trans A.dec, (STEP_main_v111_4 X).trans A.qd, (STEP_main_v111_5 X).trans A.cd,
      (STEP_main_v111_6 X).trans A.kd, ?_, ?_, ?_⟩
    · rw [STEP_main_v111_7]
      unfold step_main_v111_7
      rw [A.ctr]
      funext j
      show BitVec.ofNat 32 n + 1#32 = BitVec.ofNat 32 (n + 1)
      rw [BitVec.ofNat_add]
    · funext j
      rw [tripS X n hn A.ctr j, A.st, A.k, A.v, A.cd, A.kd, en]
      rfl
    · intro p hp j hj
      rw [tripO X n hn A.ctr j, A.st, A.q, A.k, A.v, A.dec, A.qd, en]
      by_cases e : p = n
      · subst e
        rw [if_pos hj]
        rfl
      · rw [if_neg (by omega)]
        exact A.o p (by omega) j hj

/-- The reference's result over the projections and the collected rows. -/
def outR (x : FVec Ideal S2x8192x6144 .f32) (o : FVec Ideal S64x2x4x128x512 .f32) : FVec Ideal S2x8192x2048 .bf16 :=
  truncf .bf16 (mulf (mulf (extractStridedSlice S2x8192x2048 ![0, 0, 4096] x slices_S2x8192x6144_S2x8192x2048_0_0_4096) (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 4096] x slices_S2x8192x6144_S2x8192x2048_0_0_4096)))))) (shapeCast S2x8192x2048 (mulf (subf (shapeCast S2x8192x4x512 (transpose S2x64x128x4x512 [1, 0, 3, 2, 4] o transposes_S64x2x4x128x512_S2x64x128x4x512_1_0_3_2_4) shapeCasts_S2x64x128x4x512_S2x8192x4x512) (broadcastInDim S2x8192x4x512 ![0, 1, 2, 3] bcast_S2x8192x4x1_S2x8192x4x512_0_1_2_3 (Host.divf (broadcastInDim S2x8192x4x1 ![0, 1, 2] bcast_S2x8192x4_S2x8192x4x1_0_1_2 (Host.reduceAdd (shapeCast S2x8192x4x512 (transpose S2x64x128x4x512 [1, 0, 3, 2, 4] o transposes_S64x2x4x128x512_S2x64x128x4x512_1_0_3_2_4) shapeCasts_S2x64x128x4x512_S2x8192x4x512) (constant S_ .f32 0x00000000#32) reducesTo_S2x8192x4x512_S2x8192x4_d3 h_S_)) (broadcastInDim S2x8192x4x1 ![] bcast_S_S2x8192x4x1 (constant S_ .f32 0x44000000#32))))) (broadcastInDim S2x8192x4x512 ![0, 1, 2, 3] bcast_S2x8192x4x1_S2x8192x4x512_0_1_2_3 (Host.rsqrt (addf (Host.divf (broadcastInDim S2x8192x4x1 ![0, 1, 2] bcast_S2x8192x4_S2x8192x4x1_0_1_2 (Host.reduceAdd (mulf (subf (shapeCast S2x8192x4x512 (transpose S2x64x128x4x512 [1, 0, 3, 2, 4] o transposes_S64x2x4x128x512_S2x64x128x4x512_1_0_3_2_4) shapeCasts_S2x64x128x4x512_S2x8192x4x512) (broadcastInDim S2x8192x4x512 ![0, 1, 2, 3] bcast_S2x8192x4x1_S2x8192x4x512_0_1_2_3 (Host.divf (broadcastInDim S2x8192x4x1 ![0, 1, 2] bcast_S2x8192x4_S2x8192x4x1_0_1_2 (Host.reduceAdd (shapeCast S2x8192x4x512 (transpose S2x64x128x4x512 [1, 0, 3, 2, 4] o transposes_S64x2x4x128x512_S2x64x128x4x512_1_0_3_2_4) shapeCasts_S2x64x128x4x512_S2x8192x4x512) (constant S_ .f32 0x00000000#32) reducesTo_S2x8192x4x512_S2x8192x4_d3 h_S_)) (broadcastInDim S2x8192x4x1 ![] bcast_S_S2x8192x4x1 (constant S_ .f32 0x44000000#32))))) (subf (shapeCast S2x8192x4x512 (transpose S2x64x128x4x512 [1, 0, 3, 2, 4] o transposes_S64x2x4x128x512_S2x64x128x4x512_1_0_3_2_4) shapeCasts_S2x64x128x4x512_S2x8192x4x512) (broadcastInDim S2x8192x4x512 ![0, 1, 2, 3] bcast_S2x8192x4x1_S2x8192x4x512_0_1_2_3 (Host.divf (broadcastInDim S2x8192x4x1 ![0, 1, 2] bcast_S2x8192x4_S2x8192x4x1_0_1_2 (Host.reduceAdd (shapeCast S2x8192x4x512 (transpose S2x64x128x4x512 [1, 0, 3, 2, 4] o transposes_S64x2x4x128x512_S2x64x128x4x512_1_0_3_2_4) shapeCasts_S2x64x128x4x512_S2x8192x4x512) (constant S_ .f32 0x00000000#32) reducesTo_S2x8192x4x512_S2x8192x4_d3 h_S_)) (broadcastInDim S2x8192x4x1 ![] bcast_S_S2x8192x4x1 (constant S_ .f32 0x44000000#32)))))) (constant S_ .f32 0x00000000#32) reducesTo_S2x8192x4x512_S2x8192x4_d3 h_S_)) (broadcastInDim S2x8192x4x1 ![] bcast_S_S2x8192x4x1 (constant S_ .f32 0x44000000#32))) (broadcastInDim S2x8192x4x1 ![] bcast_S_S2x8192x4x1 (constant S_ .f32 0x3727C5AC#32)))))) shapeCasts_S2x8192x4x512_S2x8192x2048)) bitsLt_bf16_f32

/-- The reference's result is that function of the projections and the collected rows. -/
theorem out_eq : (out_main_v139 V : FVec Ideal S2x8192x2048 .bf16) = outR (V (Proc.devRef .tc main_arg0)) (OO V) := rfl

end Trips

/-- The reference's result at an index. -/
theorem outR_apply (x : FVec Ideal S2x8192x6144 .f32) (o : FVec Ideal S64x2x4x128x512 .f32) (j : S2x8192x2048.Idx) :
    outR x o j = Cert.RetGate.gate (x (ix3 (j 0) (j 1) ⟨4096 + (j 2).val, by have := (j 2).isLt; dsimp at this; omega⟩))
      (fun e => o (ix5 ⟨(j 1).val / 128, by have := (j 1).isLt; dsimp at this; omega⟩ (j 0)
        ⟨(j 2).val / 512, by have := (j 2).isLt; dsimp at this; omega⟩ ⟨(j 1).val % 128, by omega⟩ e))
      ⟨(j 2).val % 512, by omega⟩ := by
  unfold Cert.RetGate.gate
  pointwise [outR]

end Cert.ReferenceIdeal.Ret

end
-- ==== Proof.RetTabR.lean ====
module

public import proofs.«01_k».proof.Proof.RetTab
public import proofs.«01_k».proof.Proof.RetRef
public import Idealize.ShloMosaic.Lib.StableHlo.RunRead

@[expose] public section

set_option maxRecDepth 16384

noncomputable section

namespace Cert.ReferenceIdeal.Ret

open Idealize.ShloMosaic Idealize.ShloMosaic.TcCoe Idealize.SL.Sem
open Idealize.ShloMosaic.StableHlo
open Cert.ReferenceIdeal Cert.ReferenceIdeal.Gen Cert.ReferenceIdeal.Value
open Cert.RetTab

/-- The evenly spaced exponents, read one at a time. -/
theorem th1 (W : Valuation τ sig (Elt Ideal)) (j : S128.Idx)
    (h0 : W (Proc.devRef .tc main_cst) = constant (F := Ideal) S_ .f32 0x00000000#32)
    (h1 : W (Proc.devRef .tc main_cst_0) = constant (F := Ideal) S_ .f32 0x3F800000#32) :
    (after hostOps0_1 W (Proc.devRef .tc main_v11) : FVec Ideal S128 .f32) j = theta (j 0) := by
  after_reads_simp
  simp only [TRef.toBuf, TRef.ofBuf, cast_eq]
  pointwise
  after_reads_simp
  simp only [TRef.toBuf, TRef.ofBuf, cast_eq]
  rw [h0, h1]
  simp only [id]
  pointwise
  rfl

/-- The first half of every row of 256, turned. -/
abbrev rotA (x : FVec Ideal S2x4x8192x256 .f32) (cs sn : FVec Ideal S8192x128 .f32) :
    FVec Ideal S2x4x8192x128 .f32 :=
  subf
    (mulf (extractStridedSlice S2x4x8192x128 ![0, 0, 0, 0] x slices_S2x4x8192x256_S2x4x8192x128_0_0_0_0)
      (broadcastInDim S2x4x8192x128 ![0, 1, 2, 3] bcast_S1x1x8192x128_S2x4x8192x128_0_1_2_3
        (broadcastInDim S1x1x8192x128 ![2, 3] bcast_S8192x128_S1x1x8192x128_2_3 cs)))
    (mulf (extractStridedSlice S2x4x8192x128 ![0, 0, 0, 128] x slices_S2x4x8192x256_S2x4x8192x128_0_0_0_128)
      (broadcastInDim S2x4x8192x128 ![0, 1, 2, 3] bcast_S1x1x8192x128_S2x4x8192x128_0_1_2_3
        (broadcastInDim S1x1x8192x128 ![2, 3] bcast_S8192x128_S1x1x8192x128_2_3 sn)))

/-- The second half of every row of 256, turned. -/
abbrev rotB (x : FVec Ideal S2x4x8192x256 .f32) (cs sn : FVec Ideal S8192x128 .f32) :
    FVec Ideal S2x4x8192x128 .f32 :=
  addf
    (mulf (extractStridedSlice S2x4x8192x128 ![0, 0, 0, 0] x slices_S2x4x8192x256_S2x4x8192x128_0_0_0_0)
      (broadcastInDim S2x4x8192x128 ![0, 1, 2, 3] bcast_S1x1x8192x128_S2x4x8192x128_0_1_2_3
        (broadcastInDim S1x1x8192x128 ![2, 3] bcast_S8192x128_S1x1x8192x128_2_3 sn)))
    (mulf (extractStridedSlice S2x4x8192x128 ![0, 0, 0, 128] x slices_S2x4x8192x256_S2x4x8192x128_0_0_0_128)
      (broadcastInDim S2x4x8192x128 ![0, 1, 2, 3] bcast_S1x1x8192x128_S2x4x8192x128_0_1_2_3
        (broadcastInDim S1x1x8192x128 ![2, 3] bcast_S8192x128_S1x1x8192x128_2_3 cs)))

/-- Rows of 256 turned by given cosines and sines, as the reference writes it. -/
def rotR (x : FVec Ideal S2x4x8192x256 .f32) (cs sn : FVec Ideal S8192x128 .f32) :
    FVec Ideal S2x4x8192x256 .f32 :=
  concatenate S2x4x8192x256 3 [⟨S2x4x8192x128, rotA x cs sn⟩, ⟨S2x4x8192x128, rotB x cs sn⟩]
    concatenates_S2x4x8192x128_S2x4x8192x128_S2x4x8192x256_d3

/-- One entry of the turned rows. -/
theorem rotR_apply (x : FVec Ideal S2x4x8192x256 .f32) (cs sn : FVec Ideal S8192x128 .f32)
    (a : Fin 8192 → Fin 128 → Ideal .f32) (hc : ∀ j, cs j = Ideal.cos (a (j 0) (j 1)))
    (hs : ∀ j, sn j = Ideal.sin (a (j 0) (j 1))) (j : S2x4x8192x256.Idx) :
    rotR x cs sn j = rot (fun d => x (ix4 (j 0) (j 1) (j 2) d)) (a (j 2)) (j 3) := by
  pointwise [rotR]
  rw [show x j = x (ix4 (j 0) (j 1) (j 2) (j 3)) from congrArg x (eq_ix4 j)]
  simp only [hc, hs]
  rfl

/-- Cosines of the angles. -/
theorem cos_read (W : Valuation τ sig (Elt Ideal)) (j : S8192x128.Idx)
    (h0 : W (Proc.devRef .tc main_v10) = sitofp (F := Ideal) .f32 (iotaInDim S8192 32 0))
    (h1 : ∀ i : S128.Idx, (W (Proc.devRef .tc main_v11) : FVec Ideal S128 .f32) i = theta (i 0)) :
    (after hostOps0_2 W (Proc.devRef .tc main_v21) : FVec Ideal S8192x128 .f32) j = Ideal.cos (ang (j 0) (j 1)) := by
  after_reads_simp
  rw [h0]
  revert h1
  generalize W (Proc.devRef .tc main_v11) = y
  intro h1
  pointwise
  exact congrArg (fun z => Ideal.cos (num (j 0).val * Ideal.div 1 (Ideal.pow (Ideal.ofBits .f32 1176256512#32) z))) (h1 (ix1 (j 1)))

/-- Sines of the angles. -/
theorem sin_read (W : Valuation τ sig (Elt Ideal)) (j : S8192x128.Idx)
    (h0 : W (Proc.devRef .tc main_v10) = sitofp (F := Ideal) .f32 (iotaInDim S8192 32 0))
    (h1 : ∀ i : S128.Idx, (W (Proc.devRef .tc main_v11) : FVec Ideal S128 .f32) i = theta (i 0)) :
    (after hostOps0_2 W (Proc.devRef .tc main_v22) : FVec Ideal S8192x128 .f32) j = Ideal.sin (ang (j 0) (j 1)) := by
  after_reads_simp
  rw [h0]
  revert h1
  generalize W (Proc.devRef .tc main_v11) = y
  intro h1
  pointwise
  exact congrArg (fun z => Ideal.sin (num (j 0).val * Ideal.div 1 (Ideal.pow (Ideal.ofBits .f32 1176256512#32) z))) (h1 (ix1 (j 1)))

/-- The turned queries. -/
theorem q_turned (W : Valuation τ sig (Elt Ideal)) :
    (after hostOps0_2 W (Proc.devRef .tc main_v39) : FVec Ideal S2x4x8192x256 .f32) =
      rotR (W (Proc.devRef .tc main_v5)) (after hostOps0_2 W (Proc.devRef .tc main_v21)) (after hostOps0_2 W (Proc.devRef .tc main_v22)) := by
  have h1 : upto hostOps0_2 W 29 (Proc.devRef .tc main_v31) = rotA (W (Proc.devRef .tc main_v5))
      (after hostOps0_2 W (Proc.devRef .tc main_v21)) (after hostOps0_2 W (Proc.devRef .tc main_v22)) := by
    after_reads_simp
  have h2 : upto hostOps0_2 W 29 (Proc.devRef .tc main_v38) = rotB (W (Proc.devRef .tc main_v5))
      (after hostOps0_2 W (Proc.devRef .tc main_v21)) (after hostOps0_2 W (Proc.devRef .tc main_v22)) := by
    after_reads_simp
  unfold rotR
  rw [← h1, ← h2]
  after_reads_simp

/-- The turned and scaled keys. -/
theorem k_turned (W : Valuation τ sig (Elt Ideal)) :
    (after hostOps0_2 W (Proc.devRef .tc main_v58) : FVec Ideal S2x4x8192x256 .f32) =
      mulf (rotR (W (Proc.devRef .tc main_v7)) (after hostOps0_2 W (Proc.devRef .tc main_v21)) (after hostOps0_2 W (Proc.devRef .tc main_v22)))
        (broadcastInDim S2x4x8192x256 ![] bcast_S_S2x4x8192x256 (constant (F := Ideal) S_ .f32 0x3D800000#32)) := by
  have h1 : upto hostOps0_2 W 46 (Proc.devRef .tc main_v48) = rotA (W (Proc.devRef .tc main_v7))
      (after hostOps0_2 W (Proc.devRef .tc main_v21)) (after hostOps0_2 W (Proc.devRef .tc main_v22)) := by
    after_reads_simp
  have h2 : upto hostOps0_2 W 46 (Proc.devRef .tc main_v55) = rotB (W (Proc.devRef .tc main_v7))
      (after hostOps0_2 W (Proc.devRef .tc main_v21)) (after hostOps0_2 W (Proc.devRef .tc main_v22)) := by
    after_reads_simp
  unfold rotR
  rw [← h1, ← h2]
  after_reads_simp

/-- A chunk of the queries as the scan takes it. -/
theorem q_chunk (W : Valuation τ sig (Elt Ideal)) (j : S64x2x4x128x256.Idx) :
    (after hostOps0_4 (after hostOps0_3 W) (Proc.devRef .tc main_v111_0) : FVec Ideal S64x2x4x128x256 .f32) j =
      (W (Proc.devRef .tc main_v39) : FVec Ideal S2x4x8192x256 .f32) (ix4 (j 1) (j 2) (pos (j 0) (j 3)) (j 4)) := by
  after_reads_simp
  generalize W (Proc.devRef .tc main_v39) = x
  simp only [id]
  pointwise

/-- A chunk of the keys as the scan takes it. -/
theorem k_chunk (W : Valuation τ sig (Elt Ideal)) (j : S64x2x4x128x256.Idx) :
    (after hostOps0_4 (after hostOps0_3 W) (Proc.devRef .tc main_v111_1) : FVec Ideal S64x2x4x128x256 .f32) j =
      (W (Proc.devRef .tc main_v58) : FVec Ideal S2x4x8192x256 .f32) (ix4 (j 1) (j 2) (pos (j 0) (j 3)) (j 4)) := by
  after_reads_simp
  generalize W (Proc.devRef .tc main_v58) = x
  simp only [id]
  pointwise

variable (m : (ℓ : Loc nD τ sig) → Buf (Elt Ideal) ℓ) (c : Fin nD)

/-- The contents after the exponents are made. -/
abbrev W1 : Valuation τ sig (Elt Ideal) := after hostOps0_1 (after hostOps0 (launchContents m c))

/-- The contents as the scan starts. -/
abbrev E0 : Valuation τ sig (Elt Ideal) := entryContents preI m c

/-- The contents as the scan starts, segment by segment. -/
theorem E0_eq : E0 m c = after hostOps0_4 (after hostOps0_3 (after hostOps0_2 (W1 m c))) := by
  simp only [E0, entryContents, afterL_cons, afterL_nil]

/-- The projections that the reference starts from. -/
abbrev PR : FVec Ideal S2x8192x6144 .f32 := launchContents m c (Proc.devRef .tc main_arg0)

theorem W1_th (i : S128.Idx) : (W1 m c (Proc.devRef .tc main_v11) : FVec Ideal S128 .f32) i = theta (i 0) :=
  th1 _ i (by after_reads_simp) (by after_reads_simp)

theorem W1_pos : W1 m c (Proc.devRef .tc main_v10) = sitofp (F := Ideal) .f32 (iotaInDim S8192 32 0) := by
  after_reads_simp

theorem W1_q (j : S2x4x8192x256.Idx) : (W1 m c (Proc.devRef .tc main_v5) : FVec Ideal S2x4x8192x256 .f32) j =
    PR m c (ix3 (j 0) (j 2) (col 0 (by decide) (j 1) (j 3))) := by
  unfold W1
  after_reads_simp
  change _ = (launchContents m c (Proc.devRef .tc main_arg0) : FVec Ideal S2x8192x6144 .f32) _
  generalize launchContents m c (Proc.devRef .tc main_arg0) = x
  pointwise
  simp only [col, Nat.zero_add]

theorem W1_k (j : S2x4x8192x256.Idx) : (W1 m c (Proc.devRef .tc main_v7) : FVec Ideal S2x4x8192x256 .f32) j =
    PR m c (ix3 (j 0) (j 2) (col 1024 (by decide) (j 1) (j 3))) := by
  unfold W1
  after_reads_simp
  change _ = (launchContents m c (Proc.devRef .tc main_arg0) : FVec Ideal S2x8192x6144 .f32) _
  generalize launchContents m c (Proc.devRef .tc main_arg0) = x
  pointwise

/-- One entry of the queries that the scan takes. -/
theorem QQ_apply (j : S64x2x4x128x256.Idx) : QQ (E0 m c) j =
    rot (fun d => PR m c (ix3 (j 1) (pos (j 0) (j 3)) (col 0 (by decide) (j 2) d))) (ang (pos (j 0) (j 3))) (j 4) := by
  rw [QQ, E0_eq]
  refine (q_chunk _ j).trans ?_
  rw [q_turned, rotR_apply _ _ _ ang (fun j => cos_read _ j (W1_pos m c) (W1_th m c)) (fun j => sin_read _ j (W1_pos m c) (W1_th m c))]
  refine congrArg (fun x => rot x _ _) (funext fun d => W1_q m c _)

/-- One entry of the keys that the scan takes. -/
theorem KK_apply (j : S64x2x4x128x256.Idx) : KK (E0 m c) j =
    rot (fun d => PR m c (ix3 (j 1) (pos (j 0) (j 3)) (col 1024 (by decide) (j 2) d))) (ang (pos (j 0) (j 3))) (j 4) *
      Ideal.ofBits .f32 0x3D800000#32 := by
  rw [KK, E0_eq]
  refine (k_chunk _ j).trans ?_
  rw [k_turned, mulf_apply, rotR_apply _ _ _ ang (fun j => cos_read _ j (W1_pos m c) (W1_th m c)) (fun j => sin_read _ j (W1_pos m c) (W1_th m c))]
  refine congrArg₂ (· * ·) (congrArg (fun x => rot x _ _) (funext fun d => W1_k m c _)) ?_
  pointwise

/-- One entry of the values that the scan takes. -/
theorem VV_apply (j : S64x2x4x128x512.Idx) : VV (E0 m c) j =
    PR m c (ix3 (j 1) (pos (j 0) (j 3)) (vcol 2048 (by decide) (j 2) (j 4))) := by
  rw [VV, E0_eq]
  unfold W1
  after_reads_simp
  change _ = (launchContents m c (Proc.devRef .tc main_arg0) : FVec Ideal S2x8192x6144 .f32) _
  generalize launchContents m c (Proc.devRef .tc main_arg0) = x
  simp only [id]
  pointwise

theorem SS_zero : SS (E0 m c) = fun _ => 0 := by
  rw [SS, E0_eq]
  unfold W1
  after_reads_simp
  simp only [id]
  funext j
  pointwise

theorem CTR_zero : (E0 m c) (Proc.devRef .tc main_v111_7) = fun _ => BitVec.ofNat 32 0 := by
  rw [E0_eq]
  unfold W1
  after_reads_simp
  rfl

theorem QD_apply (j : S4x128.Idx) : QD (E0 m c) j = qdE (j 0) (j 1) := by
  rw [QD, E0_eq]
  unfold W1
  after_reads_simp
  simp only [id]
  pointwise
  rfl

theorem KD_apply (j : S4x128.Idx) : KD (E0 m c) j = kdE (j 0) (j 1) := by
  rw [KD, E0_eq]
  unfold W1
  after_reads_simp
  simp only [id]
  pointwise
  rfl

theorem CD_apply (j : S4.Idx) : CD (E0 m c) j = cdE (j 0) := by
  rw [CD, E0_eq]
  unfold W1
  after_reads_simp
  simp only [id]
  pointwise
  rfl

theorem DEC_apply (j : S4x128x128.Idx) : DEC (E0 m c) j = decE (j 0) (j 1) (j 2) := by
  rw [DEC, E0_eq]
  unfold W1
  after_reads_simp
  simp only [TRef.toBuf, TRef.ofBuf, cast_eq, id]
  pointwise
  rfl

/-- The queries' chunks, of the projections. -/
def QQs (P : FVec Ideal S2x8192x6144 .f32) : FVec Ideal S64x2x4x128x256 .f32 := fun j =>
  rot (fun d => P (ix3 (j 1) (pos (j 0) (j 3)) (col 0 (by decide) (j 2) d))) (ang (pos (j 0) (j 3))) (j 4)

/-- The keys' chunks, of the projections. -/
def KKs (P : FVec Ideal S2x8192x6144 .f32) : FVec Ideal S64x2x4x128x256 .f32 := fun j =>
  rot (fun d => P (ix3 (j 1) (pos (j 0) (j 3)) (col 1024 (by decide) (j 2) d))) (ang (pos (j 0) (j 3))) (j 4) *
    Ideal.ofBits .f32 0x3D800000#32

/-- The values' chunks, of the projections. -/
def VVs (P : FVec Ideal S2x8192x6144 .f32) : FVec Ideal S64x2x4x128x512 .f32 := fun j =>
  P (ix3 (j 1) (pos (j 0) (j 3)) (vcol 2048 (by decide) (j 2) (j 4)))

/-- The decay within a chunk. -/
def DECs : FVec Ideal S4x128x128 .f32 := fun j => decE (j 0) (j 1) (j 2)

/-- The decay of the carried state at each row. -/
def QDs : FVec Ideal S4x128 .f32 := fun j => qdE (j 0) (j 1)

/-- The decay of each row to its chunk's end. -/
def KDs : FVec Ideal S4x128 .f32 := fun j => kdE (j 0) (j 1)

/-- The decay over a chunk. -/
def CDs : FVec Ideal S4 .f32 := fun j => cdE (j 0)

/-- The state before chunk `n`, of the projections. -/
def stS (P : FVec Ideal S2x8192x6144 .f32) (n : ℕ) : FVec Ideal S2x4x256x512 .f32 :=
  stF (KKs P) (VVs P) CDs KDs n

/-- The rows of chunk `n` before the normalisation, of the projections. -/
def oS (P : FVec Ideal S2x8192x6144 .f32) (n : ℕ) : FVec Ideal S2x4x128x512 .f32 :=
  oF (QQs P) (KKs P) (VVs P) DECs QDs CDs KDs n

/-- The gated rows, of the projections. -/
def resS (P : FVec Ideal S2x8192x6144 .f32) : FVec Ideal S2x8192x2048 .bf16 := fun j =>
  Cert.RetGate.gate (P (ix3 (j 0) (j 1) ⟨4096 + (j 2).val, Nat.add_lt_add_left (j 2).isLt 4096⟩))
    (fun e => oS P ((j 1).val / 128) (ix4 (j 0) ⟨(j 2).val / 512, Nat.div_lt_of_lt_mul (j 2).isLt⟩
      ⟨(j 1).val % 128, Nat.mod_lt _ (by decide)⟩ e)) ⟨(j 2).val % 512, Nat.mod_lt _ (by decide)⟩

/-- The reference's result is the gated rows of its projections. -/
theorem ref_result : out_main_v139 (STEP^[64] (E0 m c)) = resS (PR m c) := by
  have A := after_iter (E0 m c) (CTR_zero m c) (SS_zero m c) 64 (by decide)
  rw [out_eq, iter_main_arg0]
  funext j
  rw [outR_apply, resS]
  refine congrArg (fun o => Cert.RetGate.gate _ o _) (funext fun e => ?_)
  have hq : QQ (E0 m c) = QQs (PR m c) := funext fun j => QQ_apply m c j
  have hk : KK (E0 m c) = KKs (PR m c) := funext fun j => KK_apply m c j
  have hv : VV (E0 m c) = VVs (PR m c) := funext fun j => VV_apply m c j
  have hd : DEC (E0 m c) = DECs := funext fun j => DEC_apply m c j
  have hqd : QD (E0 m c) = QDs := funext fun j => QD_apply m c j
  have hkd : KD (E0 m c) = KDs := funext fun j => KD_apply m c j
  have hcd : CD (E0 m c) = CDs := funext fun j => CD_apply m c j
  have hj : (j 1).val / 128 < 64 := Nat.div_lt_of_lt_mul (j 1).isLt
  refine (A.o _ hj _ rfl).trans ?_
  rw [hq, hk, hv, hd, hqd, hkd, hcd]
  rfl

end Cert.ReferenceIdeal.Ret

end
-- ==== Proof.RetKernel.lean ====
module

public import proofs.«01_k».proof.Proof.RetTabK
public import proofs.«01_k».proof.Proof.RetTabR
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Ret

open Idealize.ShloMosaic Idealize.ShloMosaic.TcCoe Idealize.SL.Sem
open Idealize.ShloMosaic.Pipeline (Dat)
open Cert.KernelIdeal Cert.KernelIdeal.Gen
open Cert.RetTab
open Cert.ReferenceIdeal.Ret (ch stF oF QQs KKs VVs DECs QDs KDs CDs stS oS resS)

/-- Where each window's block lies at grid point `t`, for all the points at once. -/
theorem idx : ∀ t : Fin cfg0.N, win0_0.index t = ![t.val / 32, t.val % 8, t.val / 8 % 4]
    ∧ win0_1.index t = ![t.val / 32, t.val % 8, 4 + t.val / 8 % 4]
    ∧ win0_2.index t = ![t.val / 32, t.val % 8, 4 + t.val / 8 % 4]
    ∧ win0_3.index t = ![t.val / 32, t.val % 8, 8 + t.val / 8 % 4]
    ∧ win0_4.index t = ![t.val % 8, 0]
    ∧ win0_5.index t = ![t.val % 8, 0]
    ∧ win0_6.index t = ![t.val / 8 % 4, 0, 0]
    ∧ win0_7.index t = ![t.val / 8 % 4, 0, 0]
    ∧ win0_8.index t = ![t.val / 8 % 4, 0, 0]
    ∧ win0_9.index t = ![t.val / 8 % 4, 0, 0]
    ∧ win0_10.index t = ![t.val / 32, t.val % 8, t.val / 8 % 4] :=
  (by decide +kernel : ∀ t : Fin grid0.N, _)

/-- The batch of point `t`. -/
def bb (t : Fin cfg0.N) : Fin 2 := ⟨t.val / 32, by have := lt_of_lt_of_eq t.isLt (show cfg0.N = 64 from N_0); omega⟩

/-- The head of point `t`. -/
def hh (t : Fin cfg0.N) : Fin 4 := ⟨t.val / 8 % 4, by omega⟩

variable (m : (ℓ : Loc nD τ sig) → Buf (Elt Ideal) ℓ) (c : Dev nD)

/-- The projections that the kernel starts from. -/
abbrev P : FVec Ideal S2x8192x6144 .f32 := m ((c : Thread nD τ).loc main_arg0)

section Loads

variable (t : Fin cfg0.N) (o n : ℕ) (hn : n < 64) (ho : n * 128 = t.val % 8 * 1024 + o) (hle : o ≤ 896)

include hn ho hle

theorem ldQ (inb) (i : Fin 128) (d : Fin 256) :
    View.ld (iblk m c 0 t) (Rect.unit ![0, o, 0] S1x128x256.size inb) (ix3 0 i d)
      = P m c (ix3 (bb t) (pos (ch n) i) (col 0 (by decide) (hh t) d)) := by
  rw [View.ld_unit_apply_of _ _ _ _ _ (ix3 0 ⟨o + i.val, by omega⟩ d) (fun a => by fin_cases a <;> simp)]
  simp only [pos, col, ch, bb, hh, P]
  blk_point [iblk, V_arg m c, idx t]

theorem ldK (inb) (i : Fin 128) (d : Fin 256) :
    View.ld (iblk m c 1 t) (Rect.unit ![0, o, 0] S1x128x256.size inb) (ix3 0 i d)
      = P m c (ix3 (bb t) (pos (ch n) i) (col 1024 (by decide) (hh t) d)) := by
  rw [View.ld_unit_apply_of _ _ _ _ _ (ix3 0 ⟨o + i.val, by omega⟩ d) (fun a => by fin_cases a <;> simp)]
  simp only [pos, col, ch, bb, hh, P]
  blk_point [iblk, V_arg m c, idx t]

theorem ldV (inb) (i : Fin 128) (d : Fin 512) :
    View.ld (iblk m c 2 t) (Rect.unit ![0, o, 0] S1x128x512.size inb) (ix3 0 i d)
      = P m c (ix3 (bb t) (pos (ch n) i) (vcol 2048 (by decide) (hh t) d)) := by
  rw [View.ld_unit_apply_of _ _ _ _ _ (ix3 0 ⟨o + i.val, by omega⟩ d) (fun a => by fin_cases a <;> simp)]
  simp only [pos, vcol, ch, bb, hh, P]
  blk_point [iblk, V_arg m c, idx t]

theorem ldG (inb) (i : Fin 128) (d : Fin 512) :
    View.ld (iblk m c 3 t) (Rect.unit ![0, o, 0] S1x128x512.size inb) (ix3 0 i d)
      = P m c (ix3 (bb t) (pos (ch n) i) (vcol 4096 (by decide) (hh t) d)) := by
  rw [View.ld_unit_apply_of _ _ _ _ _ (ix3 0 ⟨o + i.val, by omega⟩ d) (fun a => by fin_cases a <;> simp)]
  simp only [pos, vcol, ch, bb, hh, P]
  blk_point [iblk, V_arg m c, idx t]

theorem ldC (inb) (i d : Fin 128) :
    View.ld (iblk m c 4 t) (Rect.unit ![o, 0] S128x128.size inb) (ix2 i d) = Ideal.cos (ang (pos (ch n) i) d) := by
  rw [View.ld_unit_apply_of _ _ _ _ _ (ix2 ⟨o + i.val, by omega⟩ d) (fun a => by fin_cases a <;> simp)]
  refine Eq.trans ?_ (V_cos m c (ix2 (pos (ch n) i) d))
  simp only [pos, ch]
  blk_ext [iblk, idx t]

theorem ldS (inb) (i d : Fin 128) :
    View.ld (iblk m c 5 t) (Rect.unit ![o, 0] S128x128.size inb) (ix2 i d) = Ideal.sin (ang (pos (ch n) i) d) := by
  rw [View.ld_unit_apply_of _ _ _ _ _ (ix2 ⟨o + i.val, by omega⟩ d) (fun a => by fin_cases a <;> simp)]
  refine Eq.trans ?_ (V_sin m c (ix2 (pos (ch n) i) d))
  simp only [pos, ch]
  blk_ext [iblk, idx t]

end Loads

theorem rdDec (t : Fin cfg0.N) (i e : Fin 128) : iblk m c 6 t (ix3 0 i e) = decE (hh t) i e := by
  refine Eq.trans ?_ (V_dec m c (ix3 (hh t) i e))
  simp only [hh]
  blk_ext [iblk, idx t]

theorem rdQd (t : Fin cfg0.N) (i : Fin 128) (e : Fin 512) : iblk m c 7 t (ix3 0 i e) = qdE (hh t) i := by
  refine Eq.trans ?_ (V_qd m c (ix3 (hh t) i e))
  simp only [hh]
  blk_ext [iblk, idx t]

theorem rdKd (t : Fin cfg0.N) (i : Fin 128) (e : Fin 256) : iblk m c 8 t (ix3 0 i e) = kdE (hh t) i := by
  refine Eq.trans ?_ (V_kd m c (ix3 (hh t) i e))
  simp only [hh]
  blk_ext [iblk, idx t]

theorem rdCd (t : Fin cfg0.N) (e : Fin 512) : iblk m c 9 t (ix3 0 0 e) = cdE (hh t) := by
  refine Eq.trans ?_ (V_cd m c (ix3 (hh t) 0 e))
  simp only [hh]
  blk_ext [iblk, idx t]

/-- What it is for a scratch to hold the state before chunk `n`, for the batch and head of point `t`. -/
def IsSt (t : Fin cfg0.N) (n : ℕ) (st : Vec Ideal S256x512 .f32) : Prop :=
  ∀ (d : Fin 256) (e : Fin 512), st (ix2 d e) = stS (P m c) n (ix4 (bb t) (hh t) d e)

/-- One chunk takes the state before it to the state after it. -/
theorem step (t : Fin cfg0.N) (o n : ℕ) (hn : n < 64) (ho : n * 128 = t.val % 8 * 1024 + o) (hle : o ≤ 896)
    (i4 i5 i1 i2) (st : Vec Ideal S256x512 .f32) (hst : IsSt m c t n st) :
    IsSt m c t (n + 1) (newSt st (View.ld (iblk m c 4 t) (Rect.unit ![o, 0] S128x128.size i4))
      (View.ld (iblk m c 5 t) (Rect.unit ![o, 0] S128x128.size i5))
      (View.ld (iblk m c 1 t) (Rect.unit ![0, o, 0] S1x128x256.size i1))
      (View.ld (iblk m c 2 t) (Rect.unit ![0, o, 0] S1x128x512.size i2)) (iblk m c 8 t) (iblk m c 9 t)) := by
  intro d e
  rw [newSt_apply]
  refine congrArg₂ (· + ·) (congrArg₂ (· * ·) (hst d e) (rdCd m c t e)) (Finset.sum_congr rfl fun i _ => ?_)
  refine congrArg₂ (· * ·) (congrArg₂ (· * ·) ((pay6_apply _ _ _ (fun i d => ang (pos (ch n) i) d)
    (ldC m c t o n hn ho hle _) (ldS m c t o n hn ho hle _) i d).trans ?_) (rdKd m c t i d)) (ldV m c t o n hn ho hle _ i e)
  exact congrArg (fun x => rot x _ _ * _) (funext fun d => ldK m c t o n hn ho hle _ i d)

/-- The rows that one chunk stores. -/
theorem rowsAt (t : Fin cfg0.N) (o n : ℕ) (hn : n < 64) (ho : n * 128 = t.val % 8 * 1024 + o) (hle : o ≤ 896)
    (i4 i5 i0 i1 i2 i3) (st : Vec Ideal S256x512 .f32) (hst : IsSt m c t n st) (y : S1x128x512.Idx) :
    rows st (View.ld (iblk m c 4 t) (Rect.unit ![o, 0] S128x128.size i4))
      (View.ld (iblk m c 5 t) (Rect.unit ![o, 0] S128x128.size i5))
      (View.ld (iblk m c 0 t) (Rect.unit ![0, o, 0] S1x128x256.size i0))
      (View.ld (iblk m c 1 t) (Rect.unit ![0, o, 0] S1x128x256.size i1))
      (View.ld (iblk m c 2 t) (Rect.unit ![0, o, 0] S1x128x512.size i2)) (iblk m c 6 t) (iblk m c 7 t)
      (View.ld (iblk m c 3 t) (Rect.unit ![0, o, 0] S1x128x512.size i3)) y
      = Cert.RetGate.gate (P m c (ix3 (bb t) (pos (ch n) (y 1)) (vcol 4096 (by decide) (hh t) (y 2))))
          (fun e => oS (P m c) n (ix4 (bb t) (hh t) (y 1) e)) (y 2) := by
  rw [rows_eq, gateV_apply]
  have hg := ldG m c t o n hn ho hle i3 (y 1) (y 2)
  have hy : y = ix3 0 (y 1) (y 2) := by
    funext a
    match a with
    | ⟨0, _⟩ => exact Subsingleton.elim (α := Fin 1) _ _
    | ⟨1, _⟩ => rfl
    | ⟨2, _⟩ => rfl
  have hq : ∀ i d, k0_pay15 (View.ld (iblk m c 4 t) (Rect.unit ![o, 0] S128x128.size i4))
      (View.ld (iblk m c 5 t) (Rect.unit ![o, 0] S128x128.size i5))
      (View.ld (iblk m c 0 t) (Rect.unit ![0, o, 0] S1x128x256.size i0)) (ix2 i d) = QQs (P m c) (ix5 (ch n) (bb t) (hh t) i d) := fun i d =>
    (pay15_apply _ _ _ (fun i d => ang (pos (ch n) i) d) (ldC m c t o n hn ho hle _) (ldS m c t o n hn ho hle _) i d).trans
      (congrArg (fun x => rot x _ _) (funext fun d => ldQ m c t o n hn ho hle _ i d))
  have hk : ∀ i d, k0_pay6 (View.ld (iblk m c 4 t) (Rect.unit ![o, 0] S128x128.size i4))
      (View.ld (iblk m c 5 t) (Rect.unit ![o, 0] S128x128.size i5))
      (View.ld (iblk m c 1 t) (Rect.unit ![0, o, 0] S1x128x256.size i1)) (ix2 i d) = KKs (P m c) (ix5 (ch n) (bb t) (hh t) i d) := fun i d =>
    (pay6_apply _ _ _ (fun i d => ang (pos (ch n) i) d) (ldC m c t o n hn ho hle _) (ldS m c t o n hn ho hle _) i d).trans
      (congrArg (fun x => rot x _ _ * _) (funext fun d => ldK m c t o n hn ho hle _ i d))
  refine congrArg₂ (fun a f => Cert.RetGate.gate a f (y 2)) ?_ (funext fun e => ?_)
  · exact (congrArg _ hy).trans hg
  · rw [oV_apply]
    refine congrArg₂ (· + ·) (Finset.sum_congr rfl fun i _ => ?_) (congrArg₂ (· * ·) (Finset.sum_congr rfl fun d _ => ?_) (rdQd m c t (y 1) e))
    · refine congrArg₂ (· * ·) (congrArg₂ (· * ·) (Finset.sum_congr rfl fun d _ => congrArg₂ (· * ·) (hq (y 1) d) (hk i d)) (rdDec m c t (y 1) i))
        (ldV m c t o n hn ho hle _ i e)
    · exact congrArg₂ (· * ·) (hq (y 1) d) (hst d e)

end Cert.KernelIdeal.Ret

end
-- ==== Proof.RetOut.lean ====
module

public import proofs.«01_k».proof.Proof.RetKernel

@[expose] public section

set_option maxRecDepth 16384

noncomputable section

namespace Cert.KernelIdeal.Ret

open Idealize.ShloMosaic Idealize.ShloMosaic.TcCoe Idealize.SL.Sem
open Idealize.ShloMosaic.Pipeline (Dat)
open Cert.KernelIdeal Cert.KernelIdeal.Gen
open Cert.RetTab
open Cert.ReferenceIdeal.Ret (ch stF oF QQs KKs VVs DECs QDs KDs CDs stS oS resS)

variable (m : (ℓ : Loc nD τ sig) → Buf (Elt Ideal) ℓ) (c : Dev nD)

/-- The state after the chunk at row `o` of point `t`'s block. -/
def nst (t : Fin cfg0.N) (o : ℕ) (ho : o ≤ 896) (st : Vec Ideal S256x512 .f32) : Vec Ideal S256x512 .f32 :=
  newSt st (View.ld (iblk m c 4 t) (Rect.unit ![o, 0] S128x128.size (by intro a; fin_cases a <;> simp <;> omega)))
    (View.ld (iblk m c 5 t) (Rect.unit ![o, 0] S128x128.size (by intro a; fin_cases a <;> simp <;> omega)))
    (View.ld (iblk m c 1 t) (Rect.unit ![0, o, 0] S1x128x256.size (by intro a; fin_cases a <;> simp <;> omega)))
    (View.ld (iblk m c 2 t) (Rect.unit ![0, o, 0] S1x128x512.size (by intro a; fin_cases a <;> simp <;> omega)))
    (iblk m c 8 t) (iblk m c 9 t)

/-- One chunk takes the right state to the right state. -/
theorem nst_isSt (t : Fin cfg0.N) (o k : ℕ) (ho : o ≤ 896) (hk : 128 * k = o) (st : Vec Ideal S256x512 .f32)
    (h : IsSt m c t (8 * (t.val % 8) + k) st) : IsSt m c t (8 * (t.val % 8) + (k + 1)) (nst m c t o ho st) :=
  step m c t o (8 * (t.val % 8) + k) (by omega) (by omega) ho _ _ _ _ st h

/-- The state after the eight chunks of point `t`. -/
def end8 (t : Fin cfg0.N) (s : Vec Ideal S256x512 .f32) : Vec Ideal S256x512 .f32 :=
  nst m c t 896 (by decide) (nst m c t 768 (by decide) (nst m c t 640 (by decide) (nst m c t 512 (by decide)
    (nst m c t 384 (by decide) (nst m c t 256 (by decide) (nst m c t 128 (by decide) (nst m c t 0 (by decide) s)))))))

/-- Eight chunks take the right state to the right state. -/
theorem end8_isSt (t : Fin cfg0.N) (s : Vec Ideal S256x512 .f32) (h : IsSt m c t (8 * (t.val % 8)) s) :
    IsSt m c t (8 * (t.val % 8) + 8) (end8 m c t s) :=
  nst_isSt m c t 896 7 _ rfl _ (nst_isSt m c t 768 6 _ rfl _ (nst_isSt m c t 640 5 _ rfl _ (nst_isSt m c t 512 4 _ rfl _
    (nst_isSt m c t 384 3 _ rfl _ (nst_isSt m c t 256 2 _ rfl _ (nst_isSt m c t 128 1 _ rfl _
      (nst_isSt m c t 0 0 _ rfl _ h)))))))

/-- The state that a point starts from: zero at the first point of a head, what the point before left elsewhere. -/
def s0 (t : Fin cfg0.N) : Vec Ideal S256x512 .f32 :=
  if t.val % 8 = 0 then fun _ => 0
  else (outsAt0 m c (t.val - 1) (Nat.lt_of_le_of_lt (Nat.sub_le _ _) t.isLt)).2

/-- The stored state is the state. -/
theorem pay2_eq (x : FVec Ideal S256x512 .f32) : k0_pay2 (F := Ideal) x = x := by
  funext j
  pointwise [k0_pay2]

/-- The first state is zero. -/
theorem pay3_eq : k0_pay3 (F := Ideal) = fun _ => 0 := by
  funext j
  pointwise [k0_pay3]

/-- Point `t` leaves in its scratch the state after its eight chunks. -/
theorem scratch_eq (t : Fin cfg0.N) : (outsAt0 m c t.val t.isLt).2 = end8 m c t (s0 m c t) := by
  by_cases h : t.val % 8 = 0
  · rw [s0, if_pos h, outsAt0_A m c t h]
    frame_out
    simp only [read_unread_whole, st1, st2, st3, st4, st5, st6, st7]
    rw [pay2_eq, ← pay3_eq]
    rfl
  · rw [s0, if_neg h, outsAt0_B m c t h]
    frame_out
    simp only [read_unread_whole, st1, st2, st3, st4, st5, st6, st7]
    rw [pay2_eq]
    rfl

/-- Every point starts from the state before its first chunk. -/
theorem s0_isSt : ∀ (n : ℕ) (t : Fin cfg0.N), t.val = n → IsSt m c t (8 * (t.val % 8)) (s0 m c t)
  | n, t, e => by
    by_cases h : t.val % 8 = 0
    · rw [s0, if_pos h, h]
      exact fun d e => rfl
    · have hlt := Nat.lt_of_le_of_lt (Nat.sub_le t.val 1) t.isLt
      have ih := end8_isSt m c ⟨t.val - 1, hlt⟩ _ (s0_isSt (t.val - 1) ⟨t.val - 1, hlt⟩ rfl)
      rw [← scratch_eq] at ih
      rw [s0, if_neg h]
      have hb : bb ⟨t.val - 1, hlt⟩ = bb t := Fin.ext (by simp only [bb]; omega)
      have hh' : hh ⟨t.val - 1, hlt⟩ = hh t := Fin.ext (by simp only [hh]; omega)
      have hn : 8 * ((t.val - 1) % 8) + 8 = 8 * (t.val % 8) := by omega
      intro d e
      have := ih d e
      rw [hb, hh'] at this
      simp only [hn] at this
      exact this
  termination_by n => n
  decreasing_by omega

/-- Where block index `y` of point `t` lies in the result array. -/
def place (t : Fin cfg0.N) (y : S1x1024x512.Idx) : S2x8192x2048.Idx :=
  ix3 (bb t) ⟨t.val % 8 * 1024 + (y 1).val, by have : (y 1).val < 1024 := (y 1).isLt; omega⟩
    ⟨t.val / 8 % 4 * 512 + (y 2).val, by have : (y 2).val < 512 := (y 2).isLt; omega⟩

theorem emb_eq (t : Fin cfg0.N) (y : S1x1024x512.Idx) : ((cfg0.win 10).blk t).view.emb y = place t y := by
  unfold place bb
  blk_ext [idx t]

/-- The rows that a chunk stores are the gated rows of the projections, where they lie. -/
theorem rows_res (t : Fin cfg0.N) (o k : ℕ) (ho : o ≤ 896) (hk : 128 * k = o) (i4 i5 i0 i1 i2 i3)
    (st : Vec Ideal S256x512 .f32) (hst : IsSt m c t (8 * (t.val % 8) + k) st) (x : S1x128x512.Idx) (y : S1x1024x512.Idx)
    (h1 : (y 1).val = o + (x 1).val) (h2 : (y 2).val = (x 2).val) :
    rows st (View.ld (iblk m c 4 t) (Rect.unit ![o, 0] S128x128.size i4))
      (View.ld (iblk m c 5 t) (Rect.unit ![o, 0] S128x128.size i5))
      (View.ld (iblk m c 0 t) (Rect.unit ![0, o, 0] S1x128x256.size i0))
      (View.ld (iblk m c 1 t) (Rect.unit ![0, o, 0] S1x128x256.size i1))
      (View.ld (iblk m c 2 t) (Rect.unit ![0, o, 0] S1x128x512.size i2)) (iblk m c 6 t) (iblk m c 7 t)
      (View.ld (iblk m c 3 t) (Rect.unit ![0, o, 0] S1x128x512.size i3)) x = resS (P m c) (place t y) := by
  have b1 : (x 1).val < 128 := (x 1).isLt
  have b2 : (x 2).val < 512 := (x 2).isLt
  have hn : (t.val % 8 * 1024 + (y 1).val) / 128 = 8 * (t.val % 8) + k := by omega
  have e1 : (⟨(t.val % 8 * 1024 + (y 1).val) % 128, Nat.mod_lt _ (by decide)⟩ : Fin 128) = x 1 := Fin.ext (by dsimp only; omega)
  have e2 : (⟨(t.val / 8 % 4 * 512 + (y 2).val) % 512, Nat.mod_lt _ (by decide)⟩ : Fin 512) = x 2 := Fin.ext (by dsimp only; omega)
  rw [rowsAt m c t o (8 * (t.val % 8) + k) (by omega) (by omega) ho _ _ _ _ _ _ st hst x]
  refine congr (congr (congrArg Cert.RetGate.gate (congrArg (P m c) ?_)) (funext fun e => ?_)) e2.symm
  · funext a
    match a with
    | ⟨0, _⟩ => rfl
    | ⟨1, _⟩ => exact Fin.ext (by simp only [pos, ch, place]; show _ = t.val % 8 * 1024 + (y 1).val; simp; omega)
    | ⟨2, _⟩ => exact Fin.ext (by simp only [vcol, hh, place]; show _ = 4096 + (t.val / 8 % 4 * 512 + (y 2).val); simp; omega)
  · show _ = oS (P m c) ((t.val % 8 * 1024 + (y 1).val) / 128) _
    rw [hn]
    refine congrArg _ (funext fun a => ?_)
    match a with
    | ⟨0, _⟩ => rfl
    | ⟨1, _⟩ => exact Fin.ext (by show t.val / 8 % 4 = (t.val / 8 % 4 * 512 + (y 2).val) / 512; omega)
    | ⟨2, _⟩ => exact e1.symm
    | ⟨3, _⟩ => rfl

/-- What point `t` leaves in its output block is the gated rows of the projections. -/
theorem out (t : Fin cfg0.N) (y : S1x1024x512.Idx) :
    (outsAt0 m c t.val t.isLt).1 y = resS (P m c) (place t y) := by
  have g0 := s0_isSt m c t.val t rfl
  have g1 := nst_isSt m c t 0 0 (by decide) rfl _ g0
  have g2 := nst_isSt m c t 128 1 (by decide) rfl _ g1
  have g3 := nst_isSt m c t 256 2 (by decide) rfl _ g2
  have g4 := nst_isSt m c t 384 3 (by decide) rfl _ g3
  have g5 := nst_isSt m c t 512 4 (by decide) rfl _ g4
  have g6 := nst_isSt m c t 640 5 (by decide) rfl _ g5
  have g7 := nst_isSt m c t 768 6 (by decide) rfl _ g6
  by_cases h : t.val % 8 = 0
  · rw [s0, if_pos h, ← pay3_eq] at g0 g1 g2 g3 g4 g5 g6 g7
    rw [outsAt0_A m c t h]
    frame_out
    simp only [read_unread_whole, st1, st2, st3, st4, st5, st6, st7, rows1, rows2, rows3, rows4, rows5, rows6, rows7]
    canon_tiles x h
    · exact rows_res m c t 896 7 (by decide) rfl _ _ _ _ _ _ _ g7 x y (by omega) h2
    · exact rows_res m c t 768 6 (by decide) rfl _ _ _ _ _ _ _ g6 x y (by omega) h2
    · exact rows_res m c t 640 5 (by decide) rfl _ _ _ _ _ _ _ g5 x y (by omega) h2
    · exact rows_res m c t 512 4 (by decide) rfl _ _ _ _ _ _ _ g4 x y (by omega) h2
    · exact rows_res m c t 384 3 (by decide) rfl _ _ _ _ _ _ _ g3 x y (by omega) h2
    · exact rows_res m c t 256 2 (by decide) rfl _ _ _ _ _ _ _ g2 x y (by omega) h2
    · exact rows_res m c t 128 1 (by decide) rfl _ _ _ _ _ _ _ g1 x y (by omega) h2
    · exact rows_res m c t 0 0 (by decide) rfl _ _ _ _ _ _ _ g0 x y (by omega) h2
  · rw [s0, if_neg h] at g0 g1 g2 g3 g4 g5 g6 g7
    rw [outsAt0_B m c t h]
    frame_out
    simp only [read_unread_whole, st1, st2, st3, st4, st5, st6, st7, rows1, rows2, rows3, rows4, rows5, rows6, rows7]
    canon_tiles x h
    · exact rows_res m c t 896 7 (by decide) rfl _ _ _ _ _ _ _ g7 x y (by omega) h2
    · exact rows_res m c t 768 6 (by decide) rfl _ _ _ _ _ _ _ g6 x y (by omega) h2
    · exact rows_res m c t 640 5 (by decide) rfl _ _ _ _ _ _ _ g5 x y (by omega) h2
    · exact rows_res m c t 512 4 (by decide) rfl _ _ _ _ _ _ _ g4 x y (by omega) h2
    · exact rows_res m c t 384 3 (by decide) rfl _ _ _ _ _ _ _ g3 x y (by omega) h2
    · exact rows_res m c t 256 2 (by decide) rfl _ _ _ _ _ _ _ g2 x y (by omega) h2
    · exact rows_res m c t 128 1 (by decide) rfl _ _ _ _ _ _ _ g1 x y (by omega) h2
    · exact rows_res m c t 0 0 (by decide) rfl _ _ _ _ _ _ _ g0 x y (by omega) h2

/-- The result array after the run is the gated rows of the projections. -/
theorem final : (dats m 0 c).arrAt 10 cfg0.N = resS (P m c) := by
  refine (dats m 0 c).arrAt_eq_of_covers 10 _ (by decide +kernel) fun t _ y => ?_
  rw [emb_eq]
  blk_simp
  rw [after0_10]
  exact out m c t y

end Cert.KernelIdeal.Ret

end
-- ==== Proof.NsaIn.lean ====
/- The sparse attention layer's query and gate projection, transposed: what the kernel's result array holds after the run is the reference's term. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead
public import Idealize.ShloMosaic.Lib.StableHlo.RunLoop

@[expose] public section

set_option maxRecDepth 16384

noncomputable section

namespace Cert.Kernel4Ideal.NsaIn

open Idealize.ShloMosaic Idealize.ShloMosaic.TcCoe Idealize.SL.Sem
open Idealize.ShloMosaic.StableHlo
open Idealize.ShloMosaic.Pipeline (Dat)
open Cert.Kernel4Ideal Cert.Kernel4Ideal.Gen

variable (m : (ℓ : Loc nD τ sig) → Buf (Elt Ideal) ℓ)

/-- Where each window's block lies at grid point `t`, for all the points at once. -/
theorem idx : ∀ t : Fin cfg0.N, win0_0.index t = ![t.val / 24, t.val / 3 % 8, 0] ∧ win0_1.index t = ![t.val / 24, 0, 0]
    ∧ win0_2.index t = ![t.val / 24, 0, 0] ∧ win0_3.index t = ![t.val % 3, 0]
    ∧ win0_4.index t = ![t.val / 24, t.val % 3, t.val / 3 % 8] :=
  (by decide +kernel : ∀ t : Fin grid0.N, _)

/-- The reference's term, over variables. -/
abbrev REF (x0 : FVec Ideal S2x8192x1024 .f32) (x1 x2 : FVec Ideal S2x1x1024 .f32)
    (x3 : FVec Ideal S1024x1072 .f32) : FVec Ideal S2x1152x8192 .f32 :=
  Cert.Reference4Ideal.Read.val_main_v13 (F := Ideal) x0 x1 x2 x3

/-- The modulated row block that the body computes at point `t` where it fills its scratch. -/
def H (c : Dev nD) (t : Fin cfg0.N) : Vec Ideal S1024x1024 .bf16 :=
  k0_pay1 (iblk m c 0 t) (iblk m c 1 t) (iblk m c 2 t)

/-- The scratch after point `t` holds the row block computed at the first point of its run of three. -/
theorem scratch (c : Dev nD) (t : Fin cfg0.N) :
    (outsAt0 m c t.val t.isLt).2 = H m c ⟨3 * (t.val / 3), Pipeline.run_start_lt t⟩ := by
  refine Pipeline.eq_of_write_hold (fun n h => (outsAt0 m c n h).2) 3 (H m c) ?_ ?_ t
  · intro t h
    show (outsAt0 m c t.val t.isLt).2 = _
    rw [outsAt0_A m c t h]
    frame_out
    rfl
  · intro t h
    show (outsAt0 m c t.val t.isLt).2 = _
    rw [outsAt0_B m c t h]
    rfl

/-- What point `t` leaves in its output block: its row block of the weights times its run's rows. -/
theorem out (c : Dev nD) (t : Fin cfg0.N) :
    (outsAt0 m c t.val t.isLt).1 = k0_pay2 (iblk m c 3 t) (H m c ⟨3 * (t.val / 3), Pipeline.run_start_lt t⟩) := by
  by_cases h : t.val % 3 = 0
  · have e : (⟨3 * (t.val / 3), Pipeline.run_start_lt t⟩ : Fin cfg0.N) = t := Fin.ext (by dsimp only; omega)
    rw [e, outsAt0_A m c t h]
    frame_out
    rfl
  · have e := scratch m c ⟨t.val - 1, Nat.lt_of_le_of_lt (Nat.sub_le _ _) t.isLt⟩
    have e' : (t.val - 1) / 3 = t.val / 3 := by omega
    simp only [e'] at e
    rw [outsAt0_B m c t h]
    frame_out
    rw [e]
    simp only [read_unread_whole]

/-- The scaled query rows, the gate rows and the rows of zeros that the call's weights are made of. -/
abbrev WQ (w : FVec Ideal S1024x1072 .f32) : FVec Ideal S1024x1024 .f32 :=
  mulf (transpose S1024x1024 [1, 0] (extractStridedSlice S1024x1024 ![0, 0] w slices_S1024x1072_S1024x1024_0_0) transposes_S1024x1024_S1024x1024_1_0)
    (broadcastInDim S1024x1024 ![] bcast_S_S1024x1024 (constant (F := Ideal) S_ .f32 0x3E000000#32))
abbrev WG (w : FVec Ideal S1024x1072 .f32) : FVec Ideal S48x1024 .f32 :=
  transpose S48x1024 [1, 0] (extractStridedSlice S1024x48 ![0, 1024] w slices_S1024x1072_S1024x48_0_1024) transposes_S1024x48_S48x1024_1_0
abbrev WZ : FVec Ideal S80x1024 .f32 := broadcastInDim S80x1024 ![] bcast_S_S80x1024 (constant (F := Ideal) S_ .f32 0x00000000#32)

/-- The weights as the call takes them. -/
def WT (w : FVec Ideal S1024x1072 .f32) : FVec Ideal S1152x1024 .bf16 :=
  truncf .bf16 (concatenate S1152x1024 0 [⟨S1024x1024, WQ w⟩, ⟨S48x1024, WG w⟩, ⟨S80x1024, WZ⟩]
    concatenates_S1024x1024_S48x1024_S80x1024_S1152x1024_d0) bitsLt_bf16_f32

/-- The contents at the call. -/
theorem V_eq (c : Dev nD) (b : Ref sig .tc) : V m c b = after hostOps0 (launchContents m c) (Proc.devRef .tc b) := by
  unfold V
  simp only [← afterL_eq_after_flatten, afterL_cons, afterL_nil]

/-- The host makes the weights from the last argument. -/
theorem V_w (c : Dev nD) : (V m c main_v8 : FVec Ideal S1152x1024 .bf16) = WT (m ((c : Thread nD τ).loc main_arg3)) := by
  rw [V_eq]
  have h1 : upto hostOps0 (launchContents m c) 9 (Proc.devRef .tc main_v3) = WQ (m ((c : Thread nD τ).loc main_arg3)) := by
    after_reads_simp
  have h2 : upto hostOps0 (launchContents m c) 9 (Proc.devRef .tc main_v5) = WG (m ((c : Thread nD τ).loc main_arg3)) := by
    after_reads_simp
  have h3 : upto hostOps0 (launchContents m c) 9 (Proc.devRef .tc main_v6) = WZ := by
    after_reads_simp
  unfold WT
  rw [← h1, ← h2, ← h3]
  after_reads_simp
  rfl

/-- The first three arguments are as they were at the launch. -/
theorem V_arg (c : Dev nD) : V m c main_arg0 = m ((c : Thread nD τ).loc main_arg0) ∧ V m c main_arg1 = m ((c : Thread nD τ).loc main_arg1)
    ∧ V m c main_arg2 = m ((c : Thread nD τ).loc main_arg2) := by
  refine ⟨?_, ?_, ?_⟩ <;> · rw [V_eq]; after_reads_simp

/-- The row of the weights at row `n` of point `t`'s block. -/
def row (t : Fin cfg0.N) (n : Fin 384) : Fin 1152 := ⟨t.val % 3 * 384 + n.val, by omega⟩

/-- The weights' block at a point. -/
theorem blk_w (c : Dev nD) (t : Fin cfg0.N) (n : Fin 384) (k : Fin 1024) : (iblk m c 3 t : Vec Ideal S384x1024 .bf16) (ix2 n k)
    = WT (m ((c : Thread nD τ).loc main_arg3)) (ix2 (row t n) k) := by
  rw [← V_w]
  blk_ext [iblk, idx t, row]

/-- One entry of the weights: scaled by an eighth in the query rows, as given in the gate rows, zero below. -/
theorem WT_apply (w : FVec Ideal S1024x1072 .f32) (r : Fin 1152) (k : Fin 1024) : WT w (ix2 r k)
    = if h : r.val < 1024 then w (ix2 k ⟨r.val, by omega⟩) * Ideal.ofBits .f32 0x3E000000#32
      else if h : r.val - 1024 < 48 then w (ix2 k ⟨1024 + (r.val - 1024), by omega⟩) else 0 := by
  pointwise [WT, WQ, WG, WZ]

/-- The scale of the queries. -/
theorem eighth : Ideal.ofBits .f32 0x3E000000#32 = ((1 / 8 : ℝ) : EReal) := by
  simp [Ideal.ofBits, Ideal.ieee, -EReal.coe_mul]; norm_num

/-- A factor of an eighth leaves a sum on the right. -/
theorem sum_eighth {n : ℕ} (f : Fin n → EReal) :
    ∑ x, f x * Ideal.ofBits .f32 0x3E000000#32 = (∑ x, f x) * Ideal.ofBits .f32 0x3E000000#32 := by
  rw [eighth]
  induction n with
  | zero => simp
  | succ n ih =>
    rw [Fin.sum_univ_succ, Fin.sum_univ_succ, ih, mul_comm, mul_comm (∑ x, _), mul_comm _ (((1 / 8 : ℝ) : EReal)),
      EReal.left_distrib_of_nonneg_of_ne_top (by norm_num) (EReal.coe_ne_top _)]

/-- One entry of the modulated rows. -/
def hid (x0 : FVec Ideal S2x8192x1024 .f32) (x1 x2 : FVec Ideal S2x1x1024 .f32) (b : Fin 2) (s : Fin 8192) (k : Fin 1024) : EReal :=
  x0 (ix3 b s k) * (1 + x1 (ix3 b 0 k)) + x2 (ix3 b 0 k)

/-- One entry of the reference's term. -/
theorem REF_apply (x0 : FVec Ideal S2x8192x1024 .f32) (x1 x2 : FVec Ideal S2x1x1024 .f32) (w : FVec Ideal S1024x1072 .f32)
    (b : Fin 2) (r : Fin 1152) (s : Fin 8192) : REF x0 x1 x2 w (ix3 b r s)
    = if h : r.val < 1024 then (∑ k, hid x0 x1 x2 b s k * w (ix2 k ⟨r.val, by omega⟩)) * Ideal.ofBits .f32 0x3E000000#32
      else if h : r.val - 1024 < 48 then ∑ k, hid x0 x1 x2 b s k * w (ix2 k ⟨1024 + (r.val - 1024), by omega⟩) else 0 := by
  unfold hid
  pointwise [REF, Cert.Reference4Ideal.Read.val_main_cst, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_v5, Cert.Reference4Ideal.Read.val_main_v6, Cert.Reference4Ideal.Read.val_main_v7, Cert.Reference4Ideal.Read.val_main_cst_0, Cert.Reference4Ideal.Read.val_main_v8, Cert.Reference4Ideal.Read.val_main_v9, Cert.Reference4Ideal.Read.val_main_v10, Cert.Reference4Ideal.Read.val_main_cst_1, Cert.Reference4Ideal.Read.val_main_v11, Cert.Reference4Ideal.Read.val_main_v12, Cert.Reference4Ideal.Read.val_main_v13]

/-- The weights times the modulated rows are the reference's term. -/
theorem dot_eq (x0 : FVec Ideal S2x8192x1024 .f32) (x1 x2 : FVec Ideal S2x1x1024 .f32) (w : FVec Ideal S1024x1072 .f32)
    (b : Fin 2) (r : Fin 1152) (s : Fin 8192) :
    ∑ k, (WT w (ix2 r k) : EReal) * hid x0 x1 x2 b s k = REF x0 x1 x2 w (ix3 b r s) := by
  rw [REF_apply]
  simp only [WT_apply]
  split_ifs with h1 h2
  · rw [← sum_eighth]
    exact Finset.sum_congr rfl fun k _ => by rw [mul_comm, mul_assoc]
  · exact Finset.sum_congr rfl fun k _ => mul_comm _ _
  · simp

/-- The token at row `s` of point `t`'s block. -/
def tok (t : Fin cfg0.N) (s : Fin 1024) : Fin 8192 := ⟨t.val / 3 % 8 * 1024 + s.val, by omega⟩

/-- The batch of point `t`. -/
def bat (t : Fin cfg0.N) : Fin 2 := ⟨t.val / 24, by have := lt_of_lt_of_eq t.isLt (show cfg0.N = 48 from N_0); omega⟩

/-- The row block in the scratch at point `t`. -/
theorem H_apply (c : Dev nD) (t : Fin cfg0.N) (s k : Fin 1024) :
    H m c ⟨3 * (t.val / 3), Pipeline.run_start_lt t⟩ (ix2 s k) = hid (m ((c : Thread nD τ).loc main_arg0))
      (m ((c : Thread nD τ).loc main_arg1)) (m ((c : Thread nD τ).loc main_arg2)) (bat t) (tok t s) k := by
  have ht := lt_of_lt_of_eq t.isLt (show cfg0.N = 48 from N_0)
  have q := idx ⟨3 * (t.val / 3), Pipeline.run_start_lt t⟩
  simp only [show 3 * (t.val / 3) / 24 = t.val / 24 by omega, show 3 * (t.val / 3) / 3 = t.val / 3 by omega] at q
  unfold hid
  pointwise [H, k0_pay1]
  blk_point [iblk, V_arg m c, q, bat, tok]

/-- One entry of what the body stores, from any operands. -/
theorem pay_apply (W : FVec Ideal S384x1024 .bf16) (h : FVec Ideal S1024x1024 .bf16) (n : Fin 384) (s : Fin 1024) :
    (k0_pay2 (F := Ideal) W h (ix3 0 n s) : EReal) = ∑ k : Fin 1024, (W (ix2 n k) : EReal) * (h (ix2 s k) : EReal) := by
  pointwise [k0_pay2]

/-- What the body stores at block index `y` of point `t` is the reference's term at the array index where `y` lies. -/
theorem point (c : Dev nD) (t : Fin cfg0.N) (y : S1x384x1024.Idx) :
    k0_pay2 (iblk m c 3 t) (H m c ⟨3 * (t.val / 3), Pipeline.run_start_lt t⟩) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have he : ((cfg0.win 4).blk t).view.emb y = ix3 (bat t) (row t (y 1)) (tok t (y 2)) := by
    have h0 := (y 0).isLt
    funext a
    match a with
    | ⟨0, _⟩ =>
      apply Fin.ext
      show win0_4.index t (0 : Fin 3) * 1 + 1 * (y 0).val = t.val / 24
      rw [(idx t).2.2.2.2]
      show t.val / 24 * 1 + 1 * (y 0).val = t.val / 24
      have h0 : (y 0).val < 1 := (y 0).isLt
      omega
    | ⟨1, _⟩ =>
      apply Fin.ext
      show win0_4.index t (1 : Fin 3) * 384 + 1 * (y 1).val = t.val % 3 * 384 + (y 1).val
      rw [(idx t).2.2.2.2]
      show t.val % 3 * 384 + 1 * (y 1).val = t.val % 3 * 384 + (y 1).val
      omega
    | ⟨2, _⟩ =>
      apply Fin.ext
      show win0_4.index t (2 : Fin 3) * 1024 + 1 * (y 2).val = t.val / 3 % 8 * 1024 + (y 2).val
      rw [(idx t).2.2.2.2]
      show t.val / 3 % 8 * 1024 + 1 * (y 2).val = t.val / 3 % 8 * 1024 + (y 2).val
      omega
  have hy : y = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  rw [he, ← dot_eq, hy]
  refine (pay_apply _ _ _ _).trans (Finset.sum_congr rfl fun k _ => ?_)
  exact Ideal.mul_congr (blk_w m c t _ k) (H_apply m c t _ k)

/-- The result array after the run is the reference's term of the arguments. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, out]
  exact point m c t y

end Cert.Kernel4Ideal.NsaIn

end
-- ==== Proof.NsaOut.lean ====
/- The sparse attention layer's output projection with residual and layer norm: the kernel's result array is the reference's term. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.NsaOut

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- Where each window's block lies at grid point `t`, for all the points at once. -/
theorem idx : ∀ t : Fin cfg0.N, win0_0.index t = ![t.val / 8, t.val % 8, 0] ∧ win0_1.index t = ![0, 0]
    ∧ win0_2.index t = ![t.val / 8, t.val % 8, 0] ∧ win0_3.index t = ![t.val / 8, 0, 0]
    ∧ win0_4.index t = ![0, 0] ∧ win0_5.index t = ![0, 0] ∧ win0_6.index t = ![t.val / 8, t.val % 8, 0] :=
  (by decide +kernel : ∀ t : Fin grid0.N, _)

/-- The reference's term, over variables. -/
abbrev REF (x0 : FVec Ideal S2x8192x1024 .bf16) (x1 : FVec Ideal S1024x1024 .f32) (x2 : FVec Ideal S2x8192x1024 .f32)
    (x3 : FVec Ideal S2x1x1024 .f32) (x4 x5 : FVec Ideal S1024 .f32) : FVec Ideal S2x8192x1024 .f32 :=
  Cert.Reference5Ideal.Read.val_main_v30 (F := Ideal) x0 x1 x2 x3 x4 x5

/-- What the body stores at block index `y` of point `t` is the reference's term at the array index where `y` lies. -/
theorem point (c : Dev nD) (t : Fin cfg0.N) (y : S1x1024x1024.Idx) :
    k0_pay1 (k0_pay2 (iblk m c 5 t)) (k0_pay3 (iblk m c 0 t) (iblk m c 1 t) (iblk m c 2 t) (iblk m c 3 t) (iblk m c 4 t)) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, k0_pay2, k0_pay3, REF, Cert.Reference5Ideal.Read.val_main_v0, Cert.Reference5Ideal.Read.val_main_v1, Cert.Reference5Ideal.Read.val_main_cst, Cert.Reference5Ideal.Read.val_main_v2, Cert.Reference5Ideal.Read.val_main_v3, Cert.Reference5Ideal.Read.val_main_v4, Cert.Reference5Ideal.Read.val_main_v5, Cert.Reference5Ideal.Read.val_main_v6, Cert.Reference5Ideal.Read.val_main_cst_0, Cert.Reference5Ideal.Read.val_main_v7, Cert.Reference5Ideal.Read.val_main_v8, Cert.Reference5Ideal.Read.val_main_cst_1, Cert.Reference5Ideal.Read.val_main_v9, Cert.Reference5Ideal.Read.val_main_v10, Cert.Reference5Ideal.Read.val_main_v11, Cert.Reference5Ideal.Read.val_main_v12, Cert.Reference5Ideal.Read.val_main_v13, Cert.Reference5Ideal.Read.val_main_cst_2, Cert.Reference5Ideal.Read.val_main_v14, Cert.Reference5Ideal.Read.val_main_v15, Cert.Reference5Ideal.Read.val_main_cst_3, Cert.Reference5Ideal.Read.val_main_v16, Cert.Reference5Ideal.Read.val_main_v17, Cert.Reference5Ideal.Read.val_main_v18, Cert.Reference5Ideal.Read.val_main_v19, Cert.Reference5Ideal.Read.val_main_cst_4, Cert.Reference5Ideal.Read.val_main_v20, Cert.Reference5Ideal.Read.val_main_v21, Cert.Reference5Ideal.Read.val_main_v22, Cert.Reference5Ideal.Read.val_main_v23, Cert.Reference5Ideal.Read.val_main_v24, Cert.Reference5Ideal.Read.val_main_v25, Cert.Reference5Ideal.Read.val_main_v26, Cert.Reference5Ideal.Read.val_main_v27, Cert.Reference5Ideal.Read.val_main_v28, Cert.Reference5Ideal.Read.val_main_v29, Cert.Reference5Ideal.Read.val_main_v30]
  blk_point [iblk, V, idx t]

/-- The result array after the run is the reference's term of the arguments. -/
theorem final (c : Dev nD) : (dats m 0 c).arrAt 6 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  exact point m c t y

end Cert.Kernel5Ideal.NsaOut

end
-- ==== Proof.KvProj.lean ====
/- The keys and values of the three branches: what the kernel's result array holds after the run is the reference's term. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Kernel6Ideal.KvProj

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- Where each window's block lies at grid point `t`, for all the points at once. -/
theorem idx : ∀ t : Fin cfg0.N, win0_0.index t = ![t.val / 24, t.val / 3 % 8, 0] ∧ win0_1.index t = ![t.val / 24, 0, 0]
    ∧ win0_2.index t = ![t.val / 24, 0, 0] ∧ win0_3.index t = ![0, t.val % 3]
    ∧ win0_4.index t = ![t.val / 24, t.val / 3 % 8, t.val % 3] :=
  (by decide +kernel : ∀ t : Fin grid0.N, _)

/-- The reference's term, over variables. -/
abbrev REF (x0 : FVec Ideal S2x8192x1024 .f32) (x1 x2 : FVec Ideal S2x1x1024 .f32)
    (x3 : FVec Ideal S1024x1536 .f32) : FVec Ideal S2x8192x1536 .f32 :=
  Cert.Reference6Ideal.Read.val_main_v6 (F := Ideal) x0 x1 x2 x3

/-- The modulated row block that the body computes at point `t` where it fills its scratch. -/
def H (c : Dev nD) (t : Fin cfg0.N) : Vec Ideal S1024x1024 .bf16 :=
  k0_pay1 (iblk m c 0 t) (iblk m c 1 t) (iblk m c 2 t)

/-- The scratch after point `t` holds the row block computed at the first point of its run of three. -/
theorem scratch (c : Dev nD) (t : Fin cfg0.N) :
    (outsAt0 m c t.val t.isLt).2 = H m c ⟨3 * (t.val / 3), Pipeline.run_start_lt t⟩ := by
  refine Pipeline.eq_of_write_hold (fun n h => (outsAt0 m c n h).2) 3 (H m c) ?_ ?_ t
  · intro t h
    show (outsAt0 m c t.val t.isLt).2 = _
    rw [outsAt0_A m c t h]
    frame_out
    rfl
  · intro t h
    show (outsAt0 m c t.val t.isLt).2 = _
    rw [outsAt0_B m c t h]
    rfl

/-- What point `t` leaves in its output block: its run's row block times its column block of the weights. -/
theorem out (c : Dev nD) (t : Fin cfg0.N) :
    (outsAt0 m c t.val t.isLt).1 = k0_pay2 (H m c ⟨3 * (t.val / 3), Pipeline.run_start_lt t⟩) (iblk m c 3 t) := by
  by_cases h : t.val % 3 = 0
  · have e : (⟨3 * (t.val / 3), Pipeline.run_start_lt t⟩ : Fin cfg0.N) = t := Fin.ext (by dsimp only; omega)
    rw [e, outsAt0_A m c t h]
    frame_out
    rfl
  · have e := scratch m c ⟨t.val - 1, Nat.lt_of_le_of_lt (Nat.sub_le _ _) t.isLt⟩
    have e' : (t.val - 1) / 3 = t.val / 3 := by omega
    simp only [e'] at e
    rw [outsAt0_B m c t h]
    frame_out
    rw [e]
    simp only [read_unread_whole]

/-- What the body stores at block index `y` of point `t` is the reference's term at the array index where `y` lies. -/
theorem point (c : Dev nD) (t : Fin cfg0.N) (y : S1x1024x512.Idx) :
    k0_pay2 (H m c ⟨3 * (t.val / 3), Pipeline.run_start_lt t⟩) (iblk m c 3 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  have ht := lt_of_lt_of_eq t.isLt (show cfg0.N = 48 from N_0)
  have q := idx ⟨3 * (t.val / 3), Pipeline.run_start_lt t⟩
  simp only [show 3 * (t.val / 3) / 24 = t.val / 24 by omega, show 3 * (t.val / 3) / 3 = t.val / 3 by omega] at q
  pointwise [k0_pay2, H, k0_pay1, REF, Cert.Reference6Ideal.Read.val_main_cst, Cert.Reference6Ideal.Read.val_main_v0, Cert.Reference6Ideal.Read.val_main_v1, Cert.Reference6Ideal.Read.val_main_v2, Cert.Reference6Ideal.Read.val_main_v3, Cert.Reference6Ideal.Read.val_main_v4, Cert.Reference6Ideal.Read.val_main_v5, Cert.Reference6Ideal.Read.val_main_v6]
  blk_point [iblk, V, idx t, q]

/-- The result array after the run is the reference's term of the arguments. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, out]
  exact point m c t y

end Cert.Kernel6Ideal.KvProj

end
-- ==== Proof.ValProj.lean ====
/- The transposed values of two branches: what the kernel's result array holds after the run is the reference's term. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

namespace Cert.Kernel7Ideal.ValProj

open Idealize.ShloMosaic Idealize.ShloMosaic.TcCoe Idealize.SL.Sem
open Idealize.ShloMosaic.StableHlo
open Idealize.ShloMosaic.Pipeline (Dat)
open Cert.Kernel7Ideal Cert.Kernel7Ideal.Gen

variable (m : (ℓ : Loc nD τ sig) → Buf (Elt Ideal) ℓ)

/-- Where each window's block lies at grid point `t`, for all the points at once. -/
theorem idx : ∀ t : Fin cfg0.N, win0_0.index t = ![t.val / 16, t.val % 16, 0] ∧ win0_1.index t = ![t.val / 16, 0, 0]
    ∧ win0_2.index t = ![t.val / 16, 0, 0] ∧ win0_3.index t = ![0, 0]
    ∧ win0_4.index t = ![t.val / 16, 0, t.val % 16] :=
  (by decide +kernel : ∀ t : Fin grid0.N, _)

/-- The reference's term, over variables. -/
abbrev REF (x0 : FVec Ideal S2x8192x1024 .f32) (x1 x2 : FVec Ideal S2x1x1024 .f32)
    (x3 : FVec Ideal S1024x1536 .f32) : FVec Ideal S2x512x8192 .bf16 :=
  Cert.Reference7Ideal.Read.val_main_v12 (F := Ideal) x0 x1 x2 x3

/-- The column of the weights that holds the values' column `v`: the key columns of each branch are passed over. -/
def wcol (v : Fin 512) : Fin 1536 := ⟨512 * (1 + v.val / 256) + 256 + v.val % 256, by omega⟩

/-- The contents at the call. -/
theorem V_eq (c : Dev nD) (b : Ref sig .tc) : V m c b = after hostOps0 (launchContents m c) (Proc.devRef .tc b) := by
  unfold V
  simp only [← afterL_eq_after_flatten, afterL_cons, afterL_nil]

/-- The weights that the call reads: the value columns, transposed. -/
theorem V_w (c : Dev nD) (v : Fin 512) (k : Fin 1024) : (V m c main_v5 : FVec Ideal S512x1024 .bf16) (ix2 v k)
    = (m ((c : Thread nD τ).loc main_arg3) : FVec Ideal S1024x1536 .f32) (ix2 k (wcol v)) := by
  rw [V_eq]
  after_reads_simp
  pointwise
  refine congrArg (fun n => (m ((c : Thread nD τ).loc main_arg3) : FVec Ideal S1024x1536 .f32) (ix2 k n)) (Fin.ext ?_)
  simp only [wcol]
  omega

/-- The first three arguments are as they were at the launch. -/
theorem V_arg (c : Dev nD) : V m c main_arg0 = m ((c : Thread nD τ).loc main_arg0) ∧ V m c main_arg1 = m ((c : Thread nD τ).loc main_arg1)
    ∧ V m c main_arg2 = m ((c : Thread nD τ).loc main_arg2) := by
  refine ⟨?_, ?_, ?_⟩ <;> · rw [V_eq]; after_reads_simp

/-- The weights' block, which is the same at every point. -/
theorem blk_w (c : Dev nD) (t : Fin cfg0.N) (v : Fin 512) (k : Fin 1024) : (iblk m c 3 t : Vec Ideal S512x1024 .bf16) (ix2 v k)
    = (m ((c : Thread nD τ).loc main_arg3) : FVec Ideal S1024x1536 .f32) (ix2 k (wcol v)) := by
  refine Eq.trans ?_ (V_w m c v k)
  blk_ext [iblk, idx t]

/-- What the body stores at block index `y` of point `t` is the reference's term at the array index where `y` lies. -/
theorem point (c : Dev nD) (t : Fin cfg0.N) (y : S1x512x512.Idx) :
    outsAt0 m c t y
      = REF (m ((c : Thread nD τ).loc main_arg0)) (m ((c : Thread nD τ).loc main_arg1)) (m ((c : Thread nD τ).loc main_arg2))
          (m ((c : Thread nD τ).loc main_arg3)) (((cfg0.win 4).blk t).view.emb y) := by
  unfold outsAt0
  frame_out
  suffices key : ∀ (W : FVec Ideal S512x1024 .bf16) (w : FVec Ideal S1024x1536 .f32),
      (∀ (v : Fin 512) (k : Fin 1024), W (ix2 v k) = w (ix2 k (wcol v))) →
      k0_pay2 W (k0_pay1 (iblk m c 0 t) (iblk m c 1 t) (iblk m c 2 t)) y
        = REF (m ((c : Thread nD τ).loc main_arg0)) (m ((c : Thread nD τ).loc main_arg1)) (m ((c : Thread nD τ).loc main_arg2)) w
            (((cfg0.win 4).blk t).view.emb y) from key _ _ (blk_w m c t)
  intro W w hw
  pointwise [k0_pay2, k0_pay1, REF, Cert.Reference7Ideal.Read.val_main_cst, Cert.Reference7Ideal.Read.val_main_v0, Cert.Reference7Ideal.Read.val_main_v1, Cert.Reference7Ideal.Read.val_main_v2, Cert.Reference7Ideal.Read.val_main_v3, Cert.Reference7Ideal.Read.val_main_v4, Cert.Reference7Ideal.Read.val_main_v5, Cert.Reference7Ideal.Read.val_main_v6, Cert.Reference7Ideal.Read.val_main_v7, Cert.Reference7Ideal.Read.val_main_v8, Cert.Reference7Ideal.Read.val_main_v9, Cert.Reference7Ideal.Read.val_main_v10, Cert.Reference7Ideal.Read.val_main_v11, Cert.Reference7Ideal.Read.val_main_v12]
  refine (Finset.sum_congr rfl fun x _ => Ideal.mul_congr (hw (y 1) x) rfl).trans ?_
  blk_point [iblk, V_arg m c, idx t]
  delta wcol
  dsimp only
  omega

/-- The result array after the run is the reference's term of the arguments. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  exact point m c t y

end Cert.Kernel7Ideal.ValProj

end
-- ==== Proof.Compress.lean ====
/- The compressed keys and values: what the kernel's two result arrays hold after the run are the reference's terms. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.KernelVsHost
public import Idealize.ShloMosaic.Lib.StableHlo.RunRead
public import Idealize.ShloMosaic.Lib.StableHlo.RunLoop

@[expose] public section

set_option maxRecDepth 16384

noncomputable section

namespace Cert.Kernel8Ideal.Compress

open Idealize.ShloMosaic Idealize.ShloMosaic.TcCoe Idealize.SL.Sem
open Idealize.ShloMosaic.StableHlo
open Idealize.ShloMosaic.Pipeline (Dat)
open Cert.Kernel8Ideal Cert.Kernel8Ideal.Gen

/-- The hidden layer's activation, with the constants as their words. -/
def act (z : EReal) : EReal :=
  z * (Ideal.ofBits .f32 0x3F000000#32 * (1
    + Ideal.tanh (Ideal.ofBits .f32 0x3F4C422A#32 * (z + Ideal.ofBits .f32 0x3D372713#32 * (z * (z * z))))))

/-- The word of 1. -/
theorem unit_word : Ideal.ofBits .f32 0x3F800000#32 = (1 : EReal) := by
  simp [Ideal.ofBits, Ideal.ieee, -EReal.coe_mul]
  norm_num

/-- Entry `f` of piece `n`: the keys (`e = 0`) or values (`e = 1`) of 16 tokens, one after the other. -/
def pcs (x0 : FVec Ideal S2x8192x1536 .f32) (e b : Fin 2) (g : Fin 4) (n : Fin 512) (f : Fin 1024) : EReal :=
  x0 (ix3 b ⟨n.val * 16 + f.val / 64, by omega⟩ ⟨e.val * 256 + g.val * 64 + f.val % 64, by omega⟩)

/-- The piece that follows, the first one after the last. -/
def nxt (n : Fin 512) : Fin 512 := ⟨(n.val + 1) % 512, by omega⟩

/-- The two halves of the hidden layer's sum, over a piece and over the piece that follows. -/
def lo (x0 : FVec Ideal S2x8192x1536 .f32) (x1 : FVec Ideal S2x32x64 .f32) (x2 : FVec Ideal S2x2048x256 .f32)
    (e b : Fin 2) (g : Fin 4) (n : Fin 512) (h : Fin 256) : EReal :=
  ∑ f : Fin 1024, (pcs x0 e b g n f + x1 (ix3 e ⟨f.val / 64, by omega⟩ ⟨f.val % 64, by omega⟩)) * x2 (ix3 e ⟨f.val, by omega⟩ h)
def hi (x0 : FVec Ideal S2x8192x1536 .f32) (x1 : FVec Ideal S2x32x64 .f32) (x2 : FVec Ideal S2x2048x256 .f32)
    (e b : Fin 2) (g : Fin 4) (n : Fin 512) (h : Fin 256) : EReal :=
  ∑ f : Fin 1024, (pcs x0 e b g n f + x1 (ix3 e ⟨16 + f.val / 64, by omega⟩ ⟨f.val % 64, by omega⟩)) * x2 (ix3 e ⟨1024 + f.val, by omega⟩ h)

/-- One entry of the result. -/
def comp (x0 : FVec Ideal S2x8192x1536 .f32) (x1 : FVec Ideal S2x32x64 .f32) (x2 : FVec Ideal S2x2048x256 .f32)
    (x3 : FVec Ideal S2x256 .f32) (x4 : FVec Ideal S2x256x64 .f32)
    (e b : Fin 2) (g : Fin 4) (n : Fin 512) (d : Fin 64) : EReal :=
  ∑ h : Fin 256, act (lo x0 x1 x2 e b g n h + hi x0 x1 x2 e b g (nxt n) h + x3 (ix2 e h)) * x4 (ix3 e h d)

open Cert.Reference8Ideal.Read in
/-- The reference's pieces. -/
theorem ref_pcs (x0 : FVec Ideal S2x8192x1536 .f32) (e b : Fin 2) (g : Fin 4) (n : Fin 512) (r : Fin 16) (d : Fin 64) :
    val_main_v4 (F := Ideal) x0 (ix6 e b g n r d) = pcs x0 e b g n ⟨r.val * 64 + d.val, by omega⟩ := by
  unfold pcs
  pointwise [val_main_v4, val_main_v3, val_main_v2, val_main_v1, val_main_v0]
  have hr : (r.val * 64 + d.val) / 64 = r.val := by omega
  have hd : (r.val * 64 + d.val) % 64 = d.val := by omega
  simp only [hr, hd]

open Cert.Reference8Ideal.Read in
/-- The reference's following pieces. -/
theorem ref_nxt (x0 : FVec Ideal S2x8192x1536 .f32) (e b : Fin 2) (g : Fin 4) (n : Fin 512) (r : Fin 16) (d : Fin 64) :
    val_main_v7 (F := Ideal) x0 (ix6 e b g n r d) = val_main_v4 (F := Ideal) x0 (ix6 e b g (nxt n) r d) := by
  unfold val_main_v7 val_main_v6 val_main_v5
  generalize val_main_v4 (F := Ideal) x0 = y
  pointwise [nxt]
  by_cases h : n.val < 511
  · rw [dif_pos h]
    have e1 : (n.val + 1) % 512 = 1 + n.val := by omega
    simp only [e1]
  · rw [dif_neg h]
    have e1 : (n.val + 1) % 512 = n.val - 511 := by omega
    simp only [e1]

open Cert.Reference8Ideal.Read in
/-- The reference's flattened blocks. -/
theorem ref_flat (x0 : FVec Ideal S2x8192x1536 .f32) (x1 : FVec Ideal S2x32x64 .f32) (e b : Fin 2) (g : Fin 4) (n : Fin 512) (k : Fin 2048) :
    val_main_v12 (F := Ideal) x0 x1 (ix5 e b g n k)
      = (if h : k.val / 64 < 16 then val_main_v4 (F := Ideal) x0 (ix6 e b g n ⟨k.val / 64, h⟩ ⟨k.val % 64, by omega⟩)
          else val_main_v7 (F := Ideal) x0 (ix6 e b g n ⟨k.val / 64 - 16, by omega⟩ ⟨k.val % 64, by omega⟩))
        + x1 (ix3 e ⟨k.val / 64, by omega⟩ ⟨k.val % 64, by omega⟩) := by
  unfold val_main_v12 val_main_v11 val_main_v10 val_main_v9 val_main_v8
  generalize val_main_v4 (F := Ideal) x0 = y
  generalize val_main_v7 (F := Ideal) x0 = z
  pointwise

open Cert.Reference8Ideal.Read in
/-- The reference's product over a block is the sum of the products over its two pieces. -/
theorem ref_sum (x0 : FVec Ideal S2x8192x1536 .f32) (x1 : FVec Ideal S2x32x64 .f32) (x2 : FVec Ideal S2x2048x256 .f32)
    (e b : Fin 2) (g : Fin 4) (n : Fin 512) (h : Fin 256) :
    (∑ k : Fin 2048, val_main_v12 (F := Ideal) x0 x1 (ix5 e b g n k) * x2 (ix3 e k h) : EReal)
      = lo x0 x1 x2 e b g n h + hi x0 x1 x2 e b g (nxt n) h := by
  refine (Fin.sum_univ_add (a := 1024) (b := 1024) _).trans ?_
  refine congrArg₂ (· + ·) (Finset.sum_congr rfl fun f _ => ?_) (Finset.sum_congr rfl fun f _ => ?_)
  · refine Ideal.mul_congr ?_ rfl
    rw [ref_flat, dif_pos (by show f.val / 64 < 16; omega), ref_pcs]
    refine Ideal.add_congr ?_ rfl
    refine congrArg (pcs x0 e b g n) (Fin.ext ?_)
    show f.val / 64 * 64 + f.val % 64 = f.val
    omega
  · refine Ideal.mul_congr ?_ rfl
    rw [ref_flat, dif_neg (by show ¬ (1024 + f.val) / 64 < 16; omega), ref_nxt, ref_pcs]
    refine Ideal.add_congr ?_ ?_
    · refine congrArg (pcs x0 e b g (nxt n)) (Fin.ext ?_)
      show ((1024 + f.val) / 64 - 16) * 64 + (1024 + f.val) % 64 = f.val
      omega
    · refine congrArg₂ (fun i j => x1 (ix3 e i j)) (Fin.ext ?_) (Fin.ext ?_)
      · show (1024 + f.val) / 64 = 16 + f.val / 64
        omega
      · show (1024 + f.val) % 64 = f.val % 64
        omega

open Cert.Reference8Ideal.Read in
/-- The reference's hidden layer before its activation. -/
theorem ref_hid (x0 : FVec Ideal S2x8192x1536 .f32) (x1 : FVec Ideal S2x32x64 .f32) (x2 : FVec Ideal S2x2048x256 .f32)
    (x3 : FVec Ideal S2x256 .f32) (e b : Fin 2) (g : Fin 4) (n : Fin 512) (h : Fin 256) :
    (val_main_v16 (F := Ideal) x0 x1 x2 x3 (ix5 e b g n h) : EReal)
      = lo x0 x1 x2 e b g n h + hi x0 x1 x2 e b g (nxt n) h + x3 (ix2 e h) := by
  rw [← ref_sum, val_main_v16_apply]
  refine Ideal.add_congr ?_ ?_
  · rw [val_main_v13_apply]
    refine Finset.sum_congr rfl fun k _ => Ideal.mul_congr (congrArg _ ?_) (congrArg _ ?_)
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl
  · pointwise [val_main_v15, val_main_v14]

open Cert.Reference8Ideal.Read in
/-- The reference's activation. -/
theorem ref_act (x0 : FVec Ideal S2x8192x1536 .f32) (x1 : FVec Ideal S2x32x64 .f32) (x2 : FVec Ideal S2x2048x256 .f32)
    (x3 : FVec Ideal S2x256 .f32) (e b : Fin 2) (g : Fin 4) (n : Fin 512) (h : Fin 256) :
    (val_main_v29 (F := Ideal) x0 x1 x2 x3 (ix5 e b g n h) : EReal) = act (val_main_v16 (F := Ideal) x0 x1 x2 x3 (ix5 e b g n h)) := by
  rw [val_main_v29_apply, val_main_v28_apply, val_main_v26_apply, val_main_v24_apply, val_main_v23_apply, val_main_v21_apply,
    val_main_v20_apply, val_main_v18_apply, val_main_v17_apply, val_main_v27_apply, val_main_v25_apply, val_main_v22_apply, val_main_v19_apply]
  generalize (val_main_v16 (F := Ideal) x0 x1 x2 x3 (ix5 e b g n h) : EReal) = z
  show z * (Ideal.ofBits .f32 0x3F000000#32 * (Ideal.ofBits .f32 0x3F800000#32
    + Ideal.tanh (Ideal.ofBits .f32 0x3F4C422A#32 * (z + Ideal.ofBits .f32 0x3D372713#32 * (z * z * z))))) = act z
  rw [unit_word, mul_assoc z z z]
  rfl

open Cert.Reference8Ideal.Read in
/-- The reference's first result at an index. -/
theorem ref_comp (x0 : FVec Ideal S2x8192x1536 .f32) (x1 : FVec Ideal S2x32x64 .f32) (x2 : FVec Ideal S2x2048x256 .f32)
    (x3 : FVec Ideal S2x256 .f32) (x4 : FVec Ideal S2x256x64 .f32) (e b : Fin 2) (g : Fin 4) (n : Fin 512) (d : Fin 64) :
    (val_main_v31 (F := Ideal) x0 x1 x2 x3 x4 (ix5 e b g n d) : EReal) = comp x0 x1 x2 x3 x4 e b g n d := by
  show (val_main_v30 (F := Ideal) x0 x1 x2 x3 x4 (ix5 e b g n d) : EReal) = _
  rw [val_main_v30_apply]
  unfold comp
  refine Finset.sum_congr rfl fun h _ => Ideal.mul_congr ?_ (congrArg _ ?_)
  · rw [← ref_hid, ← ref_act]
    refine congrArg _ ?_
    funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl

open Cert.Reference8Ideal.Read in
/-- The reference's second result at an index. -/
theorem ref_comp_t (x0 : FVec Ideal S2x8192x1536 .f32) (x1 : FVec Ideal S2x32x64 .f32) (x2 : FVec Ideal S2x2048x256 .f32)
    (x3 : FVec Ideal S2x256 .f32) (x4 : FVec Ideal S2x256x64 .f32) (e b : Fin 2) (g : Fin 4) (n : Fin 512) (d : Fin 64) :
    (val_main_v32 (F := Ideal) x0 x1 x2 x3 x4 (ix5 e b g d n) : EReal) = comp x0 x1 x2 x3 x4 e b g n d := by
  rw [← ref_comp]
  unfold val_main_v32
  generalize val_main_v31 (F := Ideal) x0 x1 x2 x3 x4 = y
  pointwise

/-- The hidden layer before its activation, at an index, from any blocks. -/
theorem pay4_apply (A : Vec Ideal S1x1x1x512x1024 .f32) (P Q : Vec Ideal S1x1x1024 .f32) (W U : Vec Ideal S1x1024x256 .bf16)
    (B : Vec Ideal S1x1x256 .f32) (n : Fin 512) (h : Fin 256) :
    (k0_pay4 (F := Ideal) A P Q W U B (ix2 n h) : EReal)
      = (∑ f : Fin 1024, (A (ix5 0 0 0 n f) + P (ix3 0 0 f) : EReal) * W (ix3 0 f h))
        + (∑ f : Fin 1024, (A (ix5 0 0 0 (nxt n) f) + Q (ix3 0 0 f) : EReal) * U (ix3 0 f h)) + B (ix3 0 0 h) := by
  have hrot : ∀ x : FVec Ideal S512x256 .f32, dynamicRotate 0 511#32 none x rotates_S512x256_d0 (ix2 n h) = x (ix2 (nxt n) h) := by
    intro x
    refine dynamicRotate_apply _ _ _ _ _ _ fun a => ?_
    match a with
    | ⟨0, _⟩ =>
      show (n.val + 1) % 512 = (n.val + 512 - 511 % 512) % 512
      omega
    | ⟨1, _⟩ => rfl
  unfold k0_pay4
  pointwise [hrot]

/-- What the body stores first, at an index. -/
theorem pay2_apply (Z : FVec Ideal S512x256 .f32) (A : Vec Ideal S1x1x1x512x1024 .f32) (P Q : Vec Ideal S1x1x1024 .f32) (W U : Vec Ideal S1x1024x256 .bf16)
    (B : Vec Ideal S1x1x256 .f32) (R : Vec Ideal S1x256x64 .bf16) (hZ : k0_pay4 (F := Ideal) A P Q W U B = Z) (n : Fin 512) (d : Fin 64) :
    (k0_pay2 (F := Ideal) (k0_pay4 A P Q W U B) (k0_pay5 A P Q W U B) R (ix5 0 0 0 n d) : EReal)
      = ∑ h : Fin 256, act (Z (ix2 n h)) * R (ix3 0 h d) := by
  unfold k0_pay5
  rw [hZ]
  pointwise [k0_pay2, k0_pay1, act]

/-- What the body stores second, at an index. -/
theorem pay3_apply (Z : FVec Ideal S512x256 .f32) (A : Vec Ideal S1x1x1x512x1024 .f32) (P Q : Vec Ideal S1x1x1024 .f32) (W U : Vec Ideal S1x1024x256 .bf16)
    (B : Vec Ideal S1x1x256 .f32) (R : Vec Ideal S1x64x256 .bf16) (hZ : k0_pay4 (F := Ideal) A P Q W U B = Z) (n : Fin 512) (d : Fin 64) :
    (k0_pay3 (F := Ideal) (k0_pay4 A P Q W U B) (k0_pay5 A P Q W U B) R (ix5 0 0 0 d n) : EReal)
      = ∑ h : Fin 256, R (ix3 0 d h) * act (Z (ix2 n h)) := by
  unfold k0_pay5
  rw [hZ]
  pointwise [k0_pay3, k0_pay1, act]

end Cert.Kernel8Ideal.Compress

end
-- ==== Proof.CompressRun.lean ====
/- The run of the compressing kernel: its two result arrays after the run are the reference's terms. -/
module

public import proofs.«01_k».proof.Proof.Compress
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.KernelVsHost
public import Idealize.ShloMosaic.Lib.StableHlo.RunRead
public import Idealize.ShloMosaic.Lib.StableHlo.RunLoop

@[expose] public section

set_option maxRecDepth 16384

noncomputable section

namespace Cert.Kernel8Ideal.Compress

open Idealize.ShloMosaic Idealize.ShloMosaic.TcCoe Idealize.SL.Sem
open Idealize.ShloMosaic.StableHlo
open Idealize.ShloMosaic.Pipeline (Dat)
open Cert.Kernel8Ideal Cert.Kernel8Ideal.Gen

variable (m : (ℓ : Loc nD τ sig) → Buf (Elt Ideal) ℓ)

/-- Where each window's block lies at grid point `t`, for all the points at once. -/
theorem idx : ∀ t : Fin cfg0.N, win0_0.index t = ![t.val / 8, t.val / 4 % 2, t.val % 4, 0, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![t.val / 8, 0, 0] ∧ win0_6.index t = ![t.val / 8, t.val / 4 % 2, t.val % 4, 0, 0]
    ∧ win0_7.index t = ![t.val / 8, t.val / 4 % 2, t.val % 4, 0, 0] :=
  (by decide +kernel : ∀ t : Fin grid0.N, _)

/-- The contents at the call. -/
theorem V_eq (c : Dev nD) (b : Ref sig .tc) : V m c b = after hostOps0 (launchContents m c) (Proc.devRef .tc b) := by
  unfold V
  simp only [← afterL_eq_after_flatten, afterL_cons, afterL_nil]

/-- The pieces that the call reads. -/
theorem V_pcs (c : Dev nD) (e b : Fin 2) (g : Fin 4) (n : Fin 512) (f : Fin 1024) : (V m c main_v5 : FVec Ideal S2x2x4x512x1024 .f32) (ix5 e b g n f)
    = pcs (m ((c : Thread nD τ).loc main_arg0)) e b g n f := by
  rw [V_eq]
  after_reads_simp
  unfold pcs
  pointwise

/-- The position encodings that the call reads. -/
theorem V_pe (c : Dev nD) (e p : Fin 2) (f : Fin 1024) : (V m c main_v6 : FVec Ideal S2x2x1024 .f32) (ix3 e p f)
    = (m ((c : Thread nD τ).loc main_arg1) : FVec Ideal S2x32x64 .f32) (ix3 e ⟨p.val * 16 + f.val / 64, by omega⟩ ⟨f.val % 64, by omega⟩) := by
  rw [V_eq]
  after_reads_simp
  pointwise

/-- The hidden layer's weights and bias, and the last weights in both orders, that the call reads. -/
theorem V_w1 (c : Dev nD) (e : Fin 2) (k : Fin 2048) (h : Fin 256) : (V m c main_v7 : FVec Ideal S2x2048x256 .bf16) (ix3 e k h)
    = (m ((c : Thread nD τ).loc main_arg2) : FVec Ideal S2x2048x256 .f32) (ix3 e k h) := by
  rw [V_eq]
  after_reads_simp
  rfl
theorem V_b1 (c : Dev nD) (e : Fin 2) (h : Fin 256) : (V m c main_v8 : FVec Ideal S2x1x256 .f32) (ix3 e 0 h)
    = (m ((c : Thread nD τ).loc main_arg3) : FVec Ideal S2x256 .f32) (ix2 e h) := by
  rw [V_eq]
  after_reads_simp
  pointwise
theorem V_w2 (c : Dev nD) (e : Fin 2) (h : Fin 256) (d : Fin 64) : (V m c main_v9 : FVec Ideal S2x256x64 .bf16) (ix3 e h d)
    = (m ((c : Thread nD τ).loc main_arg4) : FVec Ideal S2x256x64 .f32) (ix3 e h d) := by
  rw [V_eq]
  after_reads_simp
  rfl
theorem V_w2t (c : Dev nD) (e : Fin 2) (h : Fin 256) (d : Fin 64) : (V m c main_v11 : FVec Ideal S2x64x256 .bf16) (ix3 e d h)
    = (m ((c : Thread nD τ).loc main_arg4) : FVec Ideal S2x256x64 .f32) (ix3 e h d) := by
  rw [V_eq]
  after_reads_simp
  pointwise

/-- The key or value side, the batch and the group of point `t`. -/
def pe (t : Fin cfg0.N) : Fin 2 := ⟨t.val / 8, by have := lt_of_lt_of_eq t.isLt (show cfg0.N = 16 from N_0); omega⟩
def pb (t : Fin cfg0.N) : Fin 2 := ⟨t.val / 4 % 2, by omega⟩
def pg (t : Fin cfg0.N) : Fin 4 := ⟨t.val % 4, by omega⟩

/-- The blocks of point `t`, at an index: where they lie, and what they hold. -/
theorem blk_pcs_of {c : Dev nD} (X : (b : Ref sig .tc) → Buf (Elt Ideal) ((c : Thread nD τ).loc b)) (t : Fin cfg0.N) (n : Fin 512) (f : Fin 1024) :
    ((((cfg0.win 0).blk t).view.read (Elt Ideal) (X (Pipeline.arrRef spec0 0)) : Vec Ideal S1x1x1x512x1024 .f32)) (ix5 0 0 0 n f) = (X main_v5 : FVec Ideal S2x2x4x512x1024 .f32) (ix5 (pe t) (pb t) (pg t) n f) := by
  blk_ext [idx t, pe, pb, pg]
theorem blk_pcs (c : Dev nD) (t : Fin cfg0.N) (n : Fin 512) (f : Fin 1024) : (iblk m c 0 t : Vec Ideal S1x1x1x512x1024 .f32) (ix5 0 0 0 n f)
    = pcs (m ((c : Thread nD τ).loc main_arg0)) (pe t) (pb t) (pg t) n f := by
  unfold iblk
  exact (blk_pcs_of (V m c) t n f).trans (V_pcs m c _ _ _ n f)

theorem blk_pe0_of {c : Dev nD} (X : (b : Ref sig .tc) → Buf (Elt Ideal) ((c : Thread nD τ).loc b)) (t : Fin cfg0.N) (f : Fin 1024) :
    (View.ld (((cfg0.win 1).blk t).view.read (Elt Ideal) (X (Pipeline.arrRef spec0 1)) : Vec Ideal S1x2x1024 .f32) r0_1) (ix3 0 0 f) = (X main_v6 : FVec Ideal S2x2x1024 .f32) (ix3 (pe t) 0 f) := by
  refine (View.ld_apply _ _ _).trans ?_
  blk_ext [idx t, pe, pb, pg]
  all_goals exact (Rect.idx_unit_val _ _ _ _ _).trans (by simp)
theorem blk_pe0 (c : Dev nD) (t : Fin cfg0.N) (f : Fin 1024) : (View.ld (iblk m c 1 t : Vec Ideal S1x2x1024 .f32) r0_1) (ix3 0 0 f)
    = (m ((c : Thread nD τ).loc main_arg1) : FVec Ideal S2x32x64 .f32) (ix3 (pe t) ⟨f.val / 64, by omega⟩ ⟨f.val % 64, by omega⟩) := by
  unfold iblk
  exact (blk_pe0_of (V m c) t f).trans ((V_pe m c _ 0 f).trans (congrArg (fun i => (m ((c : Thread nD τ).loc main_arg1) : FVec Ideal S2x32x64 .f32) (ix3 (pe t) i ⟨f.val % 64, by omega⟩)) (Fin.ext (by show 0 * 16 + f.val / 64 = f.val / 64; omega))))

theorem blk_pe1_of {c : Dev nD} (X : (b : Ref sig .tc) → Buf (Elt Ideal) ((c : Thread nD τ).loc b)) (t : Fin cfg0.N) (f : Fin 1024) :
    (View.ld (((cfg0.win 1).blk t).view.read (Elt Ideal) (X (Pipeline.arrRef spec0 1)) : Vec Ideal S1x2x1024 .f32) r0_2) (ix3 0 0 f) = (X main_v6 : FVec Ideal S2x2x1024 .f32) (ix3 (pe t) 1 f) := by
  refine (View.ld_apply _ _ _).trans ?_
  blk_ext [idx t, pe, pb, pg]
  all_goals exact (Rect.idx_unit_val _ _ _ _ _).trans (by simp)
theorem blk_pe1 (c : Dev nD) (t : Fin cfg0.N) (f : Fin 1024) : (View.ld (iblk m c 1 t : Vec Ideal S1x2x1024 .f32) r0_2) (ix3 0 0 f)
    = (m ((c : Thread nD τ).loc main_arg1) : FVec Ideal S2x32x64 .f32) (ix3 (pe t) ⟨16 + f.val / 64, by omega⟩ ⟨f.val % 64, by omega⟩) := by
  unfold iblk
  exact (blk_pe1_of (V m c) t f).trans (V_pe m c _ 1 f)

theorem blk_w10_of {c : Dev nD} (X : (b : Ref sig .tc) → Buf (Elt Ideal) ((c : Thread nD τ).loc b)) (t : Fin cfg0.N) (f : Fin 1024) (h : Fin 256) :
    (View.ld (((cfg0.win 2).blk t).view.read (Elt Ideal) (X (Pipeline.arrRef spec0 2)) : Vec Ideal S1x2048x256 .bf16) r0_3) (ix3 0 f h) = (X main_v7 : FVec Ideal S2x2048x256 .bf16) (ix3 (pe t) ⟨f.val, by omega⟩ h) := by
  refine (View.ld_apply _ _ _).trans ?_
  blk_ext [idx t, pe, pb, pg]
  all_goals exact (Rect.idx_unit_val _ _ _ _ _).trans (by simp)
theorem blk_w10 (c : Dev nD) (t : Fin cfg0.N) (f : Fin 1024) (h : Fin 256) : (View.ld (iblk m c 2 t : Vec Ideal S1x2048x256 .bf16) r0_3) (ix3 0 f h)
    = (m ((c : Thread nD τ).loc main_arg2) : FVec Ideal S2x2048x256 .f32) (ix3 (pe t) ⟨f.val, by omega⟩ h) := by
  unfold iblk
  exact (blk_w10_of (V m c) t f h).trans (V_w1 m c _ _ h)

theorem blk_w11_of {c : Dev nD} (X : (b : Ref sig .tc) → Buf (Elt Ideal) ((c : Thread nD τ).loc b)) (t : Fin cfg0.N) (f : Fin 1024) (h : Fin 256) :
    (View.ld (((cfg0.win 2).blk t).view.read (Elt Ideal) (X (Pipeline.arrRef spec0 2)) : Vec Ideal S1x2048x256 .bf16) r0_4) (ix3 0 f h) = (X main_v7 : FVec Ideal S2x2048x256 .bf16) (ix3 (pe t) ⟨1024 + f.val, by omega⟩ h) := by
  refine (View.ld_apply _ _ _).trans ?_
  blk_ext [idx t, pe, pb, pg]
  all_goals exact (Rect.idx_unit_val _ _ _ _ _).trans (by simp)
theorem blk_w11 (c : Dev nD) (t : Fin cfg0.N) (f : Fin 1024) (h : Fin 256) : (View.ld (iblk m c 2 t : Vec Ideal S1x2048x256 .bf16) r0_4) (ix3 0 f h)
    = (m ((c : Thread nD τ).loc main_arg2) : FVec Ideal S2x2048x256 .f32) (ix3 (pe t) ⟨1024 + f.val, by omega⟩ h) := by
  unfold iblk
  exact (blk_w11_of (V m c) t f h).trans (V_w1 m c _ _ h)

theorem blk_b1_of {c : Dev nD} (X : (b : Ref sig .tc) → Buf (Elt Ideal) ((c : Thread nD τ).loc b)) (t : Fin cfg0.N) (h : Fin 256) :
    ((((cfg0.win 3).blk t).view.read (Elt Ideal) (X (Pipeline.arrRef spec0 3)) : Vec Ideal S1x1x256 .f32)) (ix3 0 0 h) = (X main_v8 : FVec Ideal S2x1x256 .f32) (ix3 (pe t) 0 h) := by
  blk_ext [idx t, pe, pb, pg]
theorem blk_b1 (c : Dev nD) (t : Fin cfg0.N) (h : Fin 256) : (iblk m c 3 t : Vec Ideal S1x1x256 .f32) (ix3 0 0 h)
    = (m ((c : Thread nD τ).loc main_arg3) : FVec Ideal S2x256 .f32) (ix2 (pe t) h) := by
  unfold iblk
  exact (blk_b1_of (V m c) t h).trans (V_b1 m c _ h)

theorem blk_w2_of {c : Dev nD} (X : (b : Ref sig .tc) → Buf (Elt Ideal) ((c : Thread nD τ).loc b)) (t : Fin cfg0.N) (h : Fin 256) (d : Fin 64) :
    ((((cfg0.win 4).blk t).view.read (Elt Ideal) (X (Pipeline.arrRef spec0 4)) : Vec Ideal S1x256x64 .bf16)) (ix3 0 h d) = (X main_v9 : FVec Ideal S2x256x64 .bf16) (ix3 (pe t) h d) := by
  blk_ext [idx t, pe, pb, pg]
theorem blk_w2 (c : Dev nD) (t : Fin cfg0.N) (h : Fin 256) (d : Fin 64) : (iblk m c 4 t : Vec Ideal S1x256x64 .bf16) (ix3 0 h d)
    = (m ((c : Thread nD τ).loc main_arg4) : FVec Ideal S2x256x64 .f32) (ix3 (pe t) h d) := by
  unfold iblk
  exact (blk_w2_of (V m c) t h d).trans (V_w2 m c _ h d)

theorem blk_w2t_of {c : Dev nD} (X : (b : Ref sig .tc) → Buf (Elt Ideal) ((c : Thread nD τ).loc b)) (t : Fin cfg0.N) (h : Fin 256) (d : Fin 64) :
    ((((cfg0.win 5).blk t).view.read (Elt Ideal) (X (Pipeline.arrRef spec0 5)) : Vec Ideal S1x64x256 .bf16)) (ix3 0 d h) = (X main_v11 : FVec Ideal S2x64x256 .bf16) (ix3 (pe t) d h) := by
  blk_ext [idx t, pe, pb, pg]
theorem blk_w2t (c : Dev nD) (t : Fin cfg0.N) (h : Fin 256) (d : Fin 64) : (iblk m c 5 t : Vec Ideal S1x64x256 .bf16) (ix3 0 d h)
    = (m ((c : Thread nD τ).loc main_arg4) : FVec Ideal S2x256x64 .f32) (ix3 (pe t) h d) := by
  unfold iblk
  exact (blk_w2t_of (V m c) t h d).trans (V_w2t m c _ h d)

/-- The hidden layer before its activation, from the blocks of point `t`. -/
theorem hidden (c : Dev nD) (t : Fin cfg0.N) (n : Fin 512) (h : Fin 256) :
    (k0_pay4 (F := Ideal) (iblk m c 0 t) (View.ld (iblk m c 1 t) r0_1) (View.ld (iblk m c 1 t) r0_2) (View.ld (iblk m c 2 t) r0_3)
        (View.ld (iblk m c 2 t) r0_4) (iblk m c 3 t) (ix2 n h) : EReal)
      = lo (m ((c : Thread nD τ).loc main_arg0)) (m ((c : Thread nD τ).loc main_arg1)) (m ((c : Thread nD τ).loc main_arg2)) (pe t) (pb t) (pg t) n h
        + hi (m ((c : Thread nD τ).loc main_arg0)) (m ((c : Thread nD τ).loc main_arg1)) (m ((c : Thread nD τ).loc main_arg2)) (pe t) (pb t) (pg t) (nxt n) h
        + (m ((c : Thread nD τ).loc main_arg3) : FVec Ideal S2x256 .f32) (ix2 (pe t) h) := by
  refine (pay4_apply _ _ _ _ _ _ n h).trans ?_
  refine Ideal.add_congr (Ideal.add_congr ?_ ?_) (blk_b1 m c t h)
  · exact Finset.sum_congr rfl fun f _ => Ideal.mul_congr (Ideal.add_congr (blk_pcs m c t n f) (blk_pe0 m c t f)) (blk_w10 m c t f h)
  · exact Finset.sum_congr rfl fun f _ => Ideal.mul_congr (Ideal.add_congr (blk_pcs m c t (nxt n) f) (blk_pe1 m c t f)) (blk_w11 m c t f h)

/-- What the body stores in its first block at point `t`. -/
theorem out6 (c : Dev nD) (t : Fin cfg0.N) (n : Fin 512) (d : Fin 64) :
    (out0_6 (iblk m c 0 t) (iblk m c 1 t) (iblk m c 2 t) (iblk m c 3 t) (iblk m c 4 t) (iblk m c 5 t) (ix5 0 0 0 n d) : EReal)
      = comp (m ((c : Thread nD τ).loc main_arg0)) (m ((c : Thread nD τ).loc main_arg1)) (m ((c : Thread nD τ).loc main_arg2))
          (m ((c : Thread nD τ).loc main_arg3)) (m ((c : Thread nD τ).loc main_arg4)) (pe t) (pb t) (pg t) n d := by
  frame_out
  unfold k0_pay6 k0_pay7
  simp (disch := decide) only [View.ld_unit_lit']
  refine (pay2_apply _ _ _ _ _ _ _ _ rfl n d).trans ?_
  unfold comp
  refine Finset.sum_congr rfl fun h _ => ?_
  exact Ideal.mul_congr (congrArg act (hidden m c t n h)) (blk_w2 m c t h d)

/-- What the body stores in its second block at point `t`. -/
theorem out7 (c : Dev nD) (t : Fin cfg0.N) (n : Fin 512) (d : Fin 64) :
    (out0_7 (iblk m c 0 t) (iblk m c 1 t) (iblk m c 2 t) (iblk m c 3 t) (iblk m c 4 t) (iblk m c 5 t) (ix5 0 0 0 d n) : EReal)
      = comp (m ((c : Thread nD τ).loc main_arg0)) (m ((c : Thread nD τ).loc main_arg1)) (m ((c : Thread nD τ).loc main_arg2))
          (m ((c : Thread nD τ).loc main_arg3)) (m ((c : Thread nD τ).loc main_arg4)) (pe t) (pb t) (pg t) n d := by
  frame_out
  unfold k0_pay6 k0_pay7
  simp (disch := decide) only [View.ld_unit_lit']
  refine (pay3_apply _ _ _ _ _ _ _ _ rfl n d).trans ?_
  unfold comp
  refine Finset.sum_congr rfl fun h _ => ?_
  exact (mul_comm _ _).trans (Ideal.mul_congr (congrArg act (hidden m c t n h)) (blk_w2t m c t h d))

/-- Where block index `y` of point `t` lies in the first result. -/
theorem emb6 (t : Fin cfg0.N) (y : S1x1x1x512x64.Idx) : (((cfg0.win 6).blk t).view.emb y : S2x2x4x512x64.Idx) = ix5 (pe t) (pb t) (pg t) (y 3) (y 4) := by
  blk_ext [idx t, pe, pb, pg]

/-- The first result array after the run is the reference's term of the arguments. -/
theorem final6 (c : Dev nD) : (dats m 0 c).arrAt 6 cfg0.N
    = Cert.Reference8Ideal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, emb6 t y]
  have hy : (y : S1x1x1x512x64.Idx) = ix5 0 0 0 (y 3) (y 4) := by
    blk_ext
  refine Eq.trans ?_ (ref_comp _ _ _ _ _ _ _ _ (y 3) (y 4)).symm
  refine Eq.trans (congrArg _ hy) ?_
  exact out6 m c t (y 3) (y 4)

/-- Where block index `y` of point `t` lies in the second result. -/
theorem emb7 (t : Fin cfg0.N) (y : S1x1x1x64x512.Idx) : (((cfg0.win 7).blk t).view.emb y : S2x2x4x64x512.Idx) = ix5 (pe t) (pb t) (pg t) (y 3) (y 4) := by
  blk_ext [idx t, pe, pb, pg]

/-- The second result array after the run is the reference's term of the arguments. -/
theorem final7 (c : Dev nD) : (dats m 0 c).arrAt 7 cfg0.N
    = Cert.Reference8Ideal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, emb7 t y]
  have hy : (y : S1x1x1x64x512.Idx) = ix5 0 0 0 (y 3) (y 4) := by
    blk_ext
  refine Eq.trans ?_ (ref_comp_t _ _ _ _ _ _ _ _ (y 4) (y 3)).symm
  refine Eq.trans (congrArg _ hy) ?_
  exact out7 m c t (y 4) (y 3)

end Cert.Kernel8Ideal.Compress

end
-- ==== Proof.AdaLn.lean ====
/- The scales, shifts and gates from the condition: what the kernel's result array holds after the run is the reference's term, where the condition and the weights are finite. -/
module

public import proofs.«01_k».proof.Proof.Gen.Kernel9Ideal.Value
public import proofs.«01_k».proof.Proof.Gen.Reference9Ideal.Read
public import proofs.«01_k».proof.Pre_finite
public import Idealize.ShloMosaic.Lib.Pipeline.ValueKit
public import Idealize.ShloMosaic.Lib.Pipeline.ReadBack
public import Idealize.ShloMosaic.Lib.KernelVsHost
public import Idealize.ShloMosaic.Lib.ReduceAll
public import Idealize.ShloMosaic.Lib.Routing.OpsSet
public import Idealize.ShloMosaic.Lib.StableHlo.RunRead
public import Idealize.ShloMosaic.Lib.StableHlo.RunLoop

@[expose] public section

set_option maxRecDepth 16384

noncomputable section

namespace Cert.Kernel9Ideal.AdaLn

open Idealize.ShloMosaic Idealize.ShloMosaic.TcCoe Idealize.SL.Sem
open Idealize.ShloMosaic.StableHlo
open Idealize.ShloMosaic.Pipeline (Dat)
open Cert.Kernel9Ideal Cert.Kernel9Ideal.Gen

/-- The activation of the condition. -/
def act (z : EReal) : EReal := z * Ideal.logistic z

/-- The condition followed by rows of zeros. -/
def pad (x0 : FVec Ideal S2x1024 .f32) (b : Fin 16) (k : Fin 1024) : EReal :=
  if h : b.val < 2 then x0 (ix2 ⟨b.val, h⟩ k) else 0

/-- One entry of the result. -/
def mods (x0 : FVec Ideal S2x1024 .f32) (x1 : FVec Ideal S4x1024x6144 .f32) (x2 : FVec Ideal S4x6144 .f32)
    (l : Fin 4) (b : Fin 16) (n : Fin 6144) : EReal :=
  (∑ k : Fin 1024, act (pad x0 b k) * x1 (ix3 l k n)) + x2 (ix2 l n)

/-- The word of 1. -/
theorem unit_word : Ideal.ofBits .f32 0x3F800000#32 = (1 : EReal) := by
  simp [Ideal.ofBits, Ideal.ieee, -EReal.coe_mul]
  norm_num

/-- The word of 0. -/
theorem zero_word : Ideal.ofBits .f32 0x00000000#32 = (0 : EReal) := by
  simp [Ideal.ofBits, Ideal.ieee]

/-- The word of infinity. -/
theorem top_word : Ideal.ofBits .f32 0x7F800000#32 = (⊤ : EReal) := by
  simp [Ideal.ofBits, Ideal.ieee]

open Cert.Reference9Ideal.Read in
/-- The reference's padded condition. -/
theorem ref_pad (x0 : FVec Ideal S2x1024 .f32) (b : Fin 16) (k : Fin 1024) :
    (val_main_v1 (F := Ideal) x0 (ix2 b k) : EReal) = pad x0 b k := by
  unfold pad val_main_v1
  have hz : ∀ i, (val_main_v0 (F := Ideal) i : EReal) = 0 := fun i => by
    rw [val_main_v0_apply, val_main_cst_apply]
    exact zero_word
  generalize (val_main_v0 (F := Ideal)) = z at hz
  pointwise [hz]

open Cert.Reference9Ideal.Read in
/-- The reference's activation. -/
theorem ref_act (x0 : FVec Ideal S2x1024 .f32) (i : S16x1024.Idx) :
    (val_main_v2 (F := Ideal) x0 i : EReal) = act (val_main_v1 (F := Ideal) x0 i) := by
  rw [val_main_v2_apply, val_main_call0_v5_apply, val_main_call0_v4_apply, val_main_call0_cst_0_apply, val_main_call0_v3_apply,
    val_main_call0_v2_apply, val_main_call0_cst_apply, val_main_call0_v1_apply, val_main_call0_v0_apply]
  generalize (val_main_v1 (F := Ideal) x0 i : EReal) = z
  show z * Ideal.div (Ideal.ofBits .f32 0x3F800000#32) (Ideal.ofBits .f32 0x3F800000#32 + Ideal.exp (-z)) = act z
  rw [unit_word]
  rfl

open Cert.Reference9Ideal.Read in
/-- The reference's result at an index. -/
theorem ref_mods (x0 : FVec Ideal S2x1024 .f32) (x1 : FVec Ideal S4x1024x6144 .f32) (x2 : FVec Ideal S4x6144 .f32)
    (l : Fin 4) (b : Fin 16) (n : Fin 6144) :
    (val_main_v7 (F := Ideal) x0 x1 x2 (ix3 l b n) : EReal) = mods x0 x1 x2 l b n := by
  rw [val_main_v7_apply, val_main_v4_apply, val_main_v3_apply, val_main_v6_apply, val_main_v5_apply]
  unfold mods
  refine Ideal.add_congr (Finset.sum_congr rfl fun k _ => ?_) (congrArg x2 ?_)
  · rw [mul_comm, ref_act]
    refine Ideal.mul_congr ?_ (congrArg x1 ?_)
    · rw [← ref_pad]
      refine congrArg (fun i => act (val_main_v1 (F := Ideal) x0 i)) ?_
      funext a; match a with | ⟨0, _⟩ => rfl | ⟨1, _⟩ => rfl
    · funext a; match a with | ⟨0, _⟩ => rfl | ⟨1, _⟩ => rfl | ⟨2, _⟩ => rfl
  · funext a; match a with | ⟨0, _⟩ => rfl | ⟨1, _⟩ => rfl

/-- A number that is neither infinity. -/
def IsReal (z : EReal) : Prop := ∃ r : ℝ, z = r

/-- A number less its rounding, which is exact, is zero where it is finite. -/
theorem rest (z : EReal) (h : IsReal z) : z - z = 0 := by
  obtain ⟨r, rfl⟩ := h
  rw [← EReal.coe_sub, sub_self, EReal.coe_zero]

/-- The activation of a finite number is finite. -/
theorem act_real (z : EReal) (h : IsReal z) : IsReal (act z) := by
  obtain ⟨r, rfl⟩ := h
  exact ⟨r * (1 + Real.exp (-r))⁻¹, by rw [act, Ideal.logistic_coe, EReal.coe_mul]⟩

/-- What the body stores, at an index: the parts that remain after the first are zero. -/
theorem pay1_apply (A : Vec Ideal S16x1024 .f32) (W : Vec Ideal S1x1024x512 .f32) (B : Vec Ideal S1x1x512 .f32)
    (hA : ∀ b k, IsReal (A (ix2 b k))) (hW : ∀ k n, IsReal (W (ix3 0 k n))) (b : Fin 16) (n : Fin 512) :
    (k0_pay1 (F := Ideal) A W B (ix3 0 b n) : EReal) = (∑ k : Fin 1024, act (A (ix2 b k)) * W (ix3 0 k n)) + B (ix3 0 0 n) := by
  have ha : ∀ k, (A (ix2 b k) * Ideal.logistic (A (ix2 b k)) - A (ix2 b k) * Ideal.logistic (A (ix2 b k)) : EReal) = 0 :=
    fun k => rest _ (act_real _ (hA b k))
  have hw : ∀ k, (W (ix3 0 k n) - W (ix3 0 k n) : EReal) = 0 := fun k => rest _ (hW k n)
  unfold k0_pay1
  pointwise [act, ha, hw]
  simp only [mul_zero, zero_mul, Finset.sum_const_zero, add_zero]

/-- The padded condition from the host's update at the first two rows. -/
theorem scatter_pad (x0 : FVec Ideal S2x1024 .f32) (z : FVec Ideal S16x1024 .f32) (hz : ∀ i, (z i : EReal) = 0) (idx : IVec S1 32) (hi : ∀ i, idx i = 0#32)
    (b : Fin 16) (k : Fin 1024) :
    (Host.scatter scatter_S16x1024_S1_S2x1024_01_n_0_0 (fun _ b => b) z idx x0 (ix2 b k) : EReal) = pad x0 b k := by
  have hl : ∀ j : S2x1024.Idx, scatter_S16x1024_S1_S2x1024_01_n_0_0.resultIdx? j idx = some (ix2 ⟨(j 0).val, by have := (j 0).isLt; exact lt_trans this (by decide)⟩ (j 1)) := by
    intro j
    have hs : ∀ a, scatter_S16x1024_S1_S2x1024_01_n_0_0.start j idx a = 0 := by
      intro a
      unfold ScatterDims.start
      split
      · rw [hi]; rfl
      · rfl
    have h0 : scatter_S16x1024_S1_S2x1024_01_n_0_0.window j 0 = (j 0).val := rfl
    have h1 : scatter_S16x1024_S1_S2x1024_01_n_0_0.window j 1 = (j 1).val := rfl
    have b0 : (j 0).val < 2 := (j 0).isLt
    have b1 : (j 1).val < 1024 := (j 1).isLt
    unfold ScatterDims.resultIdx?
    rw [dif_pos (fun a => by
      rw [hs]
      match a with
      | ⟨0, _⟩ =>
        show (0 : Int) ≤ 0 + (scatter_S16x1024_S1_S2x1024_01_n_0_0.window j 0 : Nat) ∧ (0 : Int) + (scatter_S16x1024_S1_S2x1024_01_n_0_0.window j 0 : Nat) < (16 : Nat)
        rw [h0]; omega
      | ⟨1, _⟩ =>
        show (0 : Int) ≤ 0 + (scatter_S16x1024_S1_S2x1024_01_n_0_0.window j 1 : Nat) ∧ (0 : Int) + (scatter_S16x1024_S1_S2x1024_01_n_0_0.window j 1 : Nat) < (1024 : Nat)
        rw [h1]; omega)]
    refine congrArg some (funext fun a => Fin.ext ?_)
    match a with
    | ⟨0, _⟩ =>
      show (scatter_S16x1024_S1_S2x1024_01_n_0_0.start j idx 0 + (scatter_S16x1024_S1_S2x1024_01_n_0_0.window j 0 : Nat)).toNat = (j 0).val
      rw [hs, h0]; omega
    | ⟨1, _⟩ =>
      show (scatter_S16x1024_S1_S2x1024_01_n_0_0.start j idx 1 + (scatter_S16x1024_S1_S2x1024_01_n_0_0.window j 1 : Nat)).toNat = (j 1).val
      rw [hs, h1]; omega
  unfold pad
  by_cases h : b.val < 2
  · rw [dif_pos h]
    refine Routing.scatter_set_hit _ z idx x0 (ix2 b k) _ (fun j hj => ?_) (ix2 ⟨b.val, h⟩ k) ?_
    · rw [hl] at hj
      have e := Option.some.inj hj
      have e0 : (j 0).val = b.val := congrArg (fun i : S16x1024.Idx => (i 0).val) e
      have e1 : j 1 = k := congrFun e 1
      refine congrArg x0 ?_
      funext a; match a with | ⟨0, _⟩ => exact Fin.ext e0 | ⟨1, _⟩ => exact e1
    · rw [hl]; rfl
  · rw [dif_neg h]
    refine (Routing.scatter_set_miss _ z idx x0 (ix2 b k) fun j hj => ?_).trans (hz _)
    rw [hl] at hj
    have e0 : (j 0).val = b.val := congrArg (fun i : S16x1024.Idx => (i 0).val) (Option.some.inj hj)
    exact h (e0 ▸ (j 0).isLt)

variable (m : (ℓ : Loc nD τ sig) → Buf (Elt Ideal) ℓ)

/-- Where each window's block lies at grid point `t`, for all the points at once. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- What the host has left in a buffer before the call. -/
theorem V_eq (c : Dev nD) (b : Ref sig .tc) : V m c b = after hostOps0 (launchContents m c) (Proc.devRef .tc b) := by
  unfold V
  simp only [← afterL_eq_after_flatten, afterL_cons, afterL_nil]

/-- The condition that the call reads. -/
theorem V_c (c : Dev nD) (b : Fin 16) (k : Fin 1024) : ((V m c main_v2 : FVec Ideal S16x1024 .f32) (ix2 b k) : EReal)
    = pad (m ((c : Thread nD τ).loc main_arg0)) b k := by
  rw [V_eq]
  after_reads_simp
  exact scatter_pad _ _ (fun i => zero_word) _ (fun i => rfl) b k

/-- The weights and the bias that the call reads. -/
theorem V_w (c : Dev nD) (l : Fin 4) (k : Fin 1024) (n : Fin 6144) : (V m c main_arg1 : FVec Ideal S4x1024x6144 .f32) (ix3 l k n)
    = (m ((c : Thread nD τ).loc main_arg1) : FVec Ideal S4x1024x6144 .f32) (ix3 l k n) := by
  rw [V_eq]
  after_reads_simp
theorem V_b (c : Dev nD) (l : Fin 4) (n : Fin 6144) : (V m c main_v3 : FVec Ideal S4x1x6144 .f32) (ix3 l 0 n)
    = (m ((c : Thread nD τ).loc main_arg2) : FVec Ideal S4x6144 .f32) (ix2 l n) := by
  rw [V_eq]
  after_reads_simp
  pointwise

/-- The layer of point `t` and its column for column `n` of the block. -/
def pl (t : Fin cfg0.N) : Fin 4 := ⟨t.val / 12, by have := lt_of_lt_of_eq t.isLt (show cfg0.N = 48 from N_0); omega⟩
def pn (t : Fin cfg0.N) (n : Fin 512) : Fin 6144 := ⟨t.val % 12 * 512 + n.val, by omega⟩

/-- The blocks of point `t`, at an index: where they lie, and what they hold. -/
theorem blk_c_of {c : Dev nD} (X : (b : Ref sig .tc) → Buf (Elt Ideal) ((c : Thread nD τ).loc b)) (t : Fin cfg0.N) (b : Fin 16) (k : Fin 1024) :
    ((((cfg0.win 0).blk t).view.read (Elt Ideal) (X (Pipeline.arrRef spec0 0)) : Vec Ideal S16x1024 .f32)) (ix2 b k) = (X main_v2 : FVec Ideal S16x1024 .f32) (ix2 b k) := by
  blk_ext [idx t]
theorem blk_c (c : Dev nD) (t : Fin cfg0.N) (b : Fin 16) (k : Fin 1024) : ((iblk m c 0 t : Vec Ideal S16x1024 .f32) (ix2 b k) : EReal)
    = pad (m ((c : Thread nD τ).loc main_arg0)) b k := by
  unfold iblk
  exact (blk_c_of (V m c) t b k).trans (V_c m c b k)

theorem blk_w_of {c : Dev nD} (X : (b : Ref sig .tc) → Buf (Elt Ideal) ((c : Thread nD τ).loc b)) (t : Fin cfg0.N) (k : Fin 1024) (n : Fin 512) :
    ((((cfg0.win 1).blk t).view.read (Elt Ideal) (X (Pipeline.arrRef spec0 1)) : Vec Ideal S1x1024x512 .f32)) (ix3 0 k n) = (X main_arg1 : FVec Ideal S4x1024x6144 .f32) (ix3 (pl t) k (pn t n)) := by
  blk_ext [idx t, pl, pn]
theorem blk_w (c : Dev nD) (t : Fin cfg0.N) (k : Fin 1024) (n : Fin 512) : (iblk m c 1 t : Vec Ideal S1x1024x512 .f32) (ix3 0 k n)
    = (m ((c : Thread nD τ).loc main_arg1) : FVec Ideal S4x1024x6144 .f32) (ix3 (pl t) k (pn t n)) := by
  unfold iblk
  exact (blk_w_of (V m c) t k n).trans (V_w m c _ k _)

theorem blk_b_of {c : Dev nD} (X : (b : Ref sig .tc) → Buf (Elt Ideal) ((c : Thread nD τ).loc b)) (t : Fin cfg0.N) (n : Fin 512) :
    ((((cfg0.win 2).blk t).view.read (Elt Ideal) (X (Pipeline.arrRef spec0 2)) : Vec Ideal S1x1x512 .f32)) (ix3 0 0 n) = (X main_v3 : FVec Ideal S4x1x6144 .f32) (ix3 (pl t) 0 (pn t n)) := by
  blk_ext [idx t, pl, pn]
theorem blk_b (c : Dev nD) (t : Fin cfg0.N) (n : Fin 512) : (iblk m c 2 t : Vec Ideal S1x1x512 .f32) (ix3 0 0 n)
    = (m ((c : Thread nD τ).loc main_arg2) : FVec Ideal S4x6144 .f32) (ix2 (pl t) (pn t n)) := by
  unfold iblk
  exact (blk_b_of (V m c) t n).trans (V_b m c _ _)

/-- The padded condition is finite where the condition is. -/
theorem pad_real (x0 : FVec Ideal S2x1024 .f32) (h : ∀ i, IsReal (x0 i)) (b : Fin 16) (k : Fin 1024) : IsReal (pad x0 b k) := by
  unfold pad
  split
  · exact h _
  · exact ⟨0, EReal.coe_zero.symm⟩

/-- What the body stores at point `t`. -/
theorem out (c : Dev nD) (h0 : ∀ i, IsReal ((m ((c : Thread nD τ).loc main_arg0) : FVec Ideal S2x1024 .f32) i))
    (h1 : ∀ i, IsReal ((m ((c : Thread nD τ).loc main_arg1) : FVec Ideal S4x1024x6144 .f32) i)) (t : Fin cfg0.N) (b : Fin 16) (n : Fin 512) :
    (out0_3 (iblk m c 0 t) (iblk m c 1 t) (iblk m c 2 t) (ix3 0 b n) : EReal)
      = mods (m ((c : Thread nD τ).loc main_arg0)) (m ((c : Thread nD τ).loc main_arg1)) (m ((c : Thread nD τ).loc main_arg2)) (pl t) b (pn t n) := by
  frame_out
  refine (pay1_apply _ _ _ (fun b k => ?_) (fun k n => ?_) b n).trans ?_
  · rw [blk_c m c t b k]
    exact pad_real _ h0 b k
  · rw [blk_w m c t k n]
    exact h1 _
  unfold mods
  exact Ideal.add_congr (Finset.sum_congr rfl fun k _ => Ideal.mul_congr (congrArg act (blk_c m c t b k)) (blk_w m c t k n)) (blk_b m c t n)

/-- Where block index `y` of point `t` lies in the result. -/
theorem emb (t : Fin cfg0.N) (y : S1x16x512.Idx) : (((cfg0.win 3).blk t).view.emb y : S4x16x6144.Idx) = ix3 (pl t) (y 1) (pn t (y 2)) := by
  blk_ext [idx t, pl, pn]

/-- The result array after the run is the reference's term of the arguments. -/
theorem final (c : Dev nD) (h0 : ∀ i, IsReal ((m ((c : Thread nD τ).loc main_arg0) : FVec Ideal S2x1024 .f32) i))
    (h1 : ∀ i, IsReal ((m ((c : Thread nD τ).loc main_arg1) : FVec Ideal S4x1024x6144 .f32) i)) : (dats m 0 c).arrAt 3 cfg0.N
    = Cert.Reference9Ideal.Read.val_main_v7 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, emb t y]
  have hy : (y : S1x16x512.Idx) = ix3 0 (y 1) (y 2) := by
    blk_ext
  refine Eq.trans ?_ (ref_mods _ _ _ _ _ _).symm
  refine Eq.trans (congrArg _ hy) ?_
  exact out m c h0 h1 t (y 1) (y 2)

/-- A number whose magnitude is below infinity is finite. -/
theorem real_of_lt (z w : EReal) (hw : w = ⊤) (h : FloatOps.cmpf (F := Ideal) (φ := .f32) .olt (FloatOps.hostAbsf (F := Ideal) (φ := .f32) z) w = 1#1) :
    IsReal z := by
  subst hw
  have h' : max z (-z) < ⊤ := by
    by_contra hn
    have e : BitVec.ofBool (decide (max z (-z) < ⊤)) = 1#1 := h
    rw [decide_eq_false hn] at e
    exact absurd e (by decide)
  induction z with
  | bot => simp at h'
  | top => simp at h'
  | coe r => exact ⟨r, rfl⟩

/-- The precondition says that the condition and the weights are finite. -/
theorem of_pre [Cert.Pre_finite.Facts] (x0 : FVec Ideal S2x1024 .f32) (x1 : FVec Ideal S4x1024x6144 .f32) (x2 : FVec Ideal S4x6144 .f32)
    (h : Cert.Pre_finite.fn (F := Ideal) x0 x1 x2 = fun _ => 1#1) :
    (∀ i, IsReal (x0 i)) ∧ ∀ i, IsReal (x1 i) := by
  have e := congrFun h ix0
  obtain ⟨e0, e1⟩ := IntOp.andi_eq_one.1 e
  exact ⟨fun i => real_of_lt _ _ top_word (Host.reduce_andi_all _ _ _ _ _ e0 i), fun i => real_of_lt _ _ top_word (Host.reduce_andi_all _ _ _ _ _ e1 i)⟩

end Cert.Kernel9Ideal.AdaLn

end
-- ==== Proof.Claims.lean ====
/- The claims of the retention and of the projections of both kinds of layer: the frames of their references and their value claims. -/
module

public import proofs.«01_k».proof.Defs
public import proofs.«01_k».proof.Proof.InProj
public import proofs.«01_k».proof.Proof.OutProj
public import proofs.«01_k».proof.Proof.RetOut
public import proofs.«01_k».proof.Proof.NsaIn
public import proofs.«01_k».proof.Proof.NsaOut
public import proofs.«01_k».proof.Proof.KvProj
public import proofs.«01_k».proof.Proof.ValProj
public import proofs.«01_k».proof.Proof.CompressRun
public import proofs.«01_k».proof.Proof.AdaLn
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference of the retention terminates with its arguments unchanged and every counter at zero. -/
theorem frame_r1 : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The retention's kernel and its reference end with the same result. -/
theorem algebraic1 : Cert.algebraic_KernelIdeal_ReferenceIdeal := by
  pair_intro
  · run_from Cert.KernelIdeal.Value.run_blocks m g
  · run_from Cert.ReferenceIdeal.Value.run m' g'
    rw [Cert.KernelIdeal.Ret.final]
    refine (Cert.ReferenceIdeal.Ret.ref_result m' c).trans ?_
    exact congrArg Cert.ReferenceIdeal.Ret.resS (hagree c)

/-- The reference of the input projection terminates with its arguments unchanged and every counter at zero. -/
theorem frame_r2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The reference of the output projection terminates with its arguments unchanged and every counter at zero. -/
theorem frame_r3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The input projection's kernel and its reference end with the same result. -/
theorem algebraic2 : Cert.algebraic_Kernel2Ideal_Reference2Ideal := by
  pair_intro
  · run_from Cert.Kernel2Ideal.Value.run_blocks m g
  · run_from Cert.Reference2Ideal.Value.run m' g'
    rw [Cert.Kernel2Ideal.InProj.final]
    exact Cert.Reference2Ideal.Read.val_main_v6_eq (F := Ideal) _ _ _ _

/-- The output projection's kernel and its reference end with the same result. -/
theorem algebraic3 : Cert.algebraic_Kernel3Ideal_Reference3Ideal := by
  pair_intro
  · run_from Cert.Kernel3Ideal.Value.run_blocks m g
  · run_from Cert.Reference3Ideal.Value.run m' g'
    rw [Cert.Kernel3Ideal.OutProj.final]
    obtain ⟨h0, h1, h2, h3, h4, h5⟩ := hagree c
    rw [Cert.Reference3Ideal.Read.val_main_v30_eq m' c, h0, h1, h2, h3, h4, h5]

/-- The reference of the query and gate projection terminates with its arguments unchanged and every counter at zero. -/
theorem frame_r4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The reference of the sparse attention layer's output projection terminates with its arguments unchanged and every counter at zero. -/
theorem frame_r5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- The reference of the key and value projection terminates with its arguments unchanged and every counter at zero. -/
theorem frame_r6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The reference of the transposed values terminates with its arguments unchanged and every counter at zero. -/
theorem frame_r7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

/-- The kernel of the query and gate projection and its reference end with the same result. -/
theorem algebraic4 : Cert.algebraic_Kernel4Ideal_Reference4Ideal := by
  pair_intro
  · run_from Cert.Kernel4Ideal.Value.run_blocks m g
  · run_from Cert.Reference4Ideal.Value.run m' g'
    rw [Cert.Kernel4Ideal.NsaIn.final]
    obtain ⟨h0, h1, h2, h3⟩ := hagree c
    exact (Cert.Reference4Ideal.Read.val_main_v13_eq (F := Ideal) _ _ _ _).trans
      (congrArg (Cert.Kernel4Ideal.NsaIn.REF _ _ _) h3)

/-- The kernel of the sparse attention layer's output projection and its reference end with the same result. -/
theorem algebraic5 : Cert.algebraic_Kernel5Ideal_Reference5Ideal := by
  pair_intro
  · run_from Cert.Kernel5Ideal.Value.run_blocks m g
  · run_from Cert.Reference5Ideal.Value.run m' g'
    rw [Cert.Kernel5Ideal.NsaOut.final]
    obtain ⟨h0, h1, h2, h3, h4, h5⟩ := hagree c
    rw [Cert.Reference5Ideal.Read.val_main_v30_eq m' c, h0, h1, h2, h3, h4, h5]

/-- The kernel of the key and value projection and its reference end with the same result. -/
theorem algebraic6 : Cert.algebraic_Kernel6Ideal_Reference6Ideal := by
  pair_intro
  · run_from Cert.Kernel6Ideal.Value.run_blocks m g
  · run_from Cert.Reference6Ideal.Value.run m' g'
    rw [Cert.Kernel6Ideal.KvProj.final]
    exact Cert.Reference6Ideal.Read.val_main_v6_eq (F := Ideal) _ _ _ _

/-- The kernel of the transposed values and its reference end with the same result. -/
theorem algebraic7 : Cert.algebraic_Kernel7Ideal_Reference7Ideal := by
  pair_intro
  · run_from Cert.Kernel7Ideal.Value.run_blocks m g
  · run_from Cert.Reference7Ideal.Value.run m' g'
    rw [Cert.Kernel7Ideal.ValProj.final]
    exact Cert.Reference7Ideal.Read.val_main_v12_eq (F := Ideal) _ _ _ _

/-- The reference of the compression ends in a quiet state. -/
theorem frame_r8 : Cert.quiescent_Reference8Ideal := fun m ρ _ =>
  (θ_run _ _ _).mono (fun r h => ⟨fun c => (h c).2.2, sem_eq_zero_of_no_sems (by decide) r.2⟩) (Cert.Reference8Ideal.Value.run (F := Ideal) m ρ)

/-- The kernel of the compressed keys and values and its reference end with the same two results. -/
theorem algebraic8 : Cert.algebraic_Kernel8Ideal_Reference8Ideal := by
  pair_intro
  · run_from Cert.Kernel8Ideal.Value.run_blocks m g
  · run_from Cert.Reference8Ideal.Value.run m' g'
    · rw [Cert.Kernel8Ideal.Compress.final6]
      obtain ⟨h0, h1, h2, h3, h4⟩ := hagree c
      rw [Cert.Reference8Ideal.Read.val_main_v31_eq m' c, h0, h1, h2, h3, h4]
    · rw [Cert.Kernel8Ideal.Compress.final7]
      obtain ⟨h0, h1, h2, h3, h4⟩ := hagree c
      rw [Cert.Reference8Ideal.Read.val_main_v32_eq m' c, h0, h1, h2, h3, h4]

/-- The reference of the modulation ends in a quiet state. -/
theorem frame_r9 : Cert.quiescent_Reference9Ideal := fun m ρ _ =>
  (θ_run _ _ _).mono (fun r h => ⟨fun c => (h c).2, sem_eq_zero_of_no_sems (by decide) r.2⟩) (Cert.Reference9Ideal.Value.run (F := Ideal) m ρ)

/-- The kernel of the modulation and its reference end with the same result where the condition and the weights are finite. -/
theorem algebraic9 [Cert.Pre_finite.Facts] : Cert.algebraic_Kernel9Ideal_Reference9Ideal_pre_finite := by
  pair_intro
  · run_from Cert.Kernel9Ideal.Value.run_blocks m g
  · run_from Cert.Reference9Ideal.Value.run m' g'
    have hr := Cert.Kernel9Ideal.AdaLn.of_pre _ _ _ (hpre c)
    rw [Cert.Kernel9Ideal.AdaLn.final m c hr.1 hr.2]
    exact Cert.Reference9Ideal.Read.val_main_v7_eq (F := Ideal) _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6
public import proofs.«01_k».proof.Proof.Gen.Kernel6Ideal
public import proofs.«01_k».proof.Proof.Gen.Kernel6.Skeleton
public import proofs.«01_k».proof.Proof.Gen.Kernel6Ideal.Skeleton
public import proofs.«01_k».proof.Proof.Gen.Kernel6.Launch
public import proofs.«01_k».proof.Proof.Gen.Kernel6Ideal.Launch
public import proofs.«01_k».proof.Proof.Gen.Kernel6.Points
public import proofs.«01_k».proof.Proof.Gen.Kernel6Ideal.Points
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7
public import proofs.«01_k».proof.Proof.Gen.Kernel7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Kernel7.Points
public import proofs.«01_k».proof.Proof.Gen.Kernel7Ideal.Points
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8Ideal
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Kernel8.Points
public import proofs.«01_k».proof.Proof.Gen.Kernel8Ideal.Points
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9
public import proofs.«01_k».proof.Proof.Gen.Kernel9Ideal
public import proofs.«01_k».proof.Proof.Gen.Kernel9.Skeleton
public import proofs.«01_k».proof.Proof.Gen.Kernel9Ideal.Skeleton
public import proofs.«01_k».proof.Proof.Gen.Kernel9.Launch
public import proofs.«01_k».proof.Proof.Gen.Kernel9Ideal.Launch
public import proofs.«01_k».proof.Proof.Gen.Kernel9.Points
public import proofs.«01_k».proof.Proof.Gen.Kernel9Ideal.Points
public import proofs.«01_k».proof.Proof.Gen.Kernel9.Frame
public import proofs.«01_k».proof.Proof.Gen.Kernel9Ideal.Frame
public import proofs.«01_k».proof.Proof.Gen.Reference9Ideal
public import proofs.«01_k».proof.Proof.Gen.Pre_finite
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims: the frames, the idealizations and the values of the retention, the projections, the compression and the modulation. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts,
  fun m ρ _ => Cert.Kernel.Gen.frame m ρ, fun m ρ _ => Cert.KernelIdeal.Gen.frame m ρ, frame_r1,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, fun m ρ _ => Cert.Kernel9Ideal.Gen.frame m ρ, frame_r9, fun m ρ _ => frame_r9 m ρ trivial,
  trivial, algebraic1, trivial, algebraic2, trivial, algebraic3, trivial, algebraic4, trivial, algebraic5, trivial, algebraic6, trivial, algebraic7, trivial, algebraic8, trivial, algebraic9⟩

end Cert.Proof

end
